-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x32x4x84x84 : Shape := ⟨5, ![16, 32, 4, 84, 84]⟩
abbrev S18 : Shape := ⟨1, ![18]⟩
abbrev S_ : Shape := ⟨0, ![]⟩
abbrev S16x32 : Shape := ⟨2, ![16, 32]⟩
abbrev S1x32 : Shape := ⟨2, ![1, 32]⟩
abbrev S16 : Shape := ⟨1, ![16]⟩
abbrev S1x16 : Shape := ⟨2, ![1, 16]⟩
abbrev S16x32x18 : Shape := ⟨3, ![16, 32, 18]⟩
abbrev S1x1x18 : Shape := ⟨3, ![1, 1, 18]⟩
abbrev S1x18 : Shape := ⟨2, ![1, 18]⟩
abbrev S1 : Shape := ⟨1, ![1]⟩
abbrev S1x1 : Shape := ⟨2, ![1, 1]⟩

abbrev nBuf : Table → Nat
  | .hbm => 6
  | .local .tc .vmem => 3
  | .local .scVector .vmem => 1
  | _ => 0

abbrev bufTy : (tb : Table) → Fin (nBuf tb) → BufTy
  | .hbm, ⟨0, _⟩ => ⟨S16x32x4x84x84, .f32⟩
  | .hbm, ⟨1, _⟩ => ⟨S18, .f32⟩
  | .hbm, ⟨2, _⟩ => ⟨S_, .i32⟩
  | .hbm, ⟨3, _⟩ => ⟨S16x32, .i32⟩
  | .hbm, ⟨4, _⟩ => ⟨S16x32x18, .f32⟩
  | .hbm, ⟨5, _⟩ => ⟨S16x32, .f32⟩
  | .local .tc .vmem, ⟨0, _⟩ => ⟨S18, .f32⟩
  | .local .tc .vmem, ⟨1, _⟩ => ⟨S16x32x18, .f32⟩
  | .local .tc .vmem, ⟨2, _⟩ => ⟨S16x32, .f32⟩
  | .local .scVector .vmem, ⟨0, _⟩ => ⟨S1x32, .i32⟩
  | _, _ => ⟨S16x32x4x84x84, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => true
  | ⟨2, _⟩ => true
  | ⟨3, _⟩ => true
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v0_scv : Ref sig .scVector := ⟨.hbm, 3, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc1_sem0_0 : DmaSem sig := 1
abbrev cc1_sem1_0 : DmaSem sig := 2
abbrev cc1_sem2_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_1 : BitVec 32 := 0#32
  let c2_i32 : BitVec 32 := 2#32
  let v5 : BitVec 32 := Scalar.addi c0_i32_1 c2_i32
  let c1_i32_2 : BitVec 32 := 1#32
  ⟨c0_i32_1, v5, c1_i32_2⟩
@[reducible] def k0_t2_loop : Scf.Loop 32 :=
  let c0_i32_13 : BitVec 32 := 0#32
  let c18_i32 : BitVec 32 := 18#32
  let v30 : BitVec 32 := Scalar.addi c0_i32_13 c18_i32
  let c1_i32_14 : BitVec 32 := 1#32
  ⟨c0_i32_13, v30, c1_i32_14⟩
def k0_off1 (k0_t1 : Fin k0_t1_loop.trips) : Fin 2 → Nat :=
  let c0_i32_1 : BitVec 32 := 0#32
  let c1_i32_2 : BitVec 32 := 1#32
  let arg4 : BitVec 32 := Scf.iv c0_i32_1 c1_i32_2 k0_t1
  let c16_i32_16 : BitVec 32 := 16#32
  let v32 : BitVec 32 := Scalar.muli arg4 c16_i32_16
  let c0_i32_18 : BitVec 32 := 0#32
  let v34 : BitVec 1 := Scalar.cmpi .sgt v32 c0_i32_18
  let v35 : BitVec 32 := Scalar.extui v34
  let c0_i32_19 : BitVec 32 := 0#32
  let v36 : BitVec 1 := Scalar.cmpi .slt v32 c0_i32_19
  let v37 : BitVec 32 := Scalar.extui v36
  let v38 : BitVec 32 := Scalar.subi v35 v37
  let c32_i32_17 : BitVec 32 := 32#32
  let c0_i32_20 : BitVec 32 := 0#32
  let v39 : BitVec 1 := Scalar.cmpi .sgt c32_i32_17 c0_i32_20
  let v40 : BitVec 32 := Scalar.extui v39
  let c0_i32_21 : BitVec 32 := 0#32
  let v41 : BitVec 1 := Scalar.cmpi .slt c32_i32_17 c0_i32_21
  let v42 : BitVec 32 := Scalar.extui v41
  let v43 : BitVec 32 := Scalar.subi v40 v42
  let v44 : BitVec 1 := Scalar.cmpi .ne v38 v43
  let v45 : BitVec 32 := Scalar.remsi v32 c32_i32_17
  let c0_i32_22 : BitVec 32 := 0#32
  let v46 : BitVec 1 := Scalar.cmpi .ne v45 c0_i32_22
  let v47 : BitVec 1 := Scalar.andi v44 v46
  let v33 : BitVec 32 := Scalar.divsi v32 c32_i32_17
  let c1_i32_23 : BitVec 32 := 1#32
  let v48 : BitVec 32 := Scalar.subi v33 c1_i32_23
  let v49 : BitVec 32 := Scalar.select v47 v48 v33
  let v61 : Index := Scalar.indexCast v49
  let c16_i32_24 : BitVec 32 := 16#32
  let v50 : BitVec 32 := Scalar.muli arg4 c16_i32_24
  let c32_i32_25 : BitVec 32 := 32#32
  let c0_i32_26 : BitVec 32 := 0#32
  let v51 : BitVec 1 := Scalar.cmpi .eq c32_i32_25 c0_i32_26
  let c1_i32_27 : BitVec 32 := 1#32
  let v52 : BitVec 32 := Scalar.select v51 c1_i32_27 c32_i32_25
  let v53 : BitVec 32 := Scalar.remsi v50 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let v62 : Index := Scalar.indexCast v60
  ![v61.toNat, v62.toNat]
def k0_off2 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_5 : BitVec 32 := 0#32
  let v8 : BitVec 1 := Scalar.cmpi .sgt v2 c0_i32_5
  let v9 : BitVec 32 := Scalar.extui v8
  let c0_i32_6 : BitVec 32 := 0#32
  let v10 : BitVec 1 := Scalar.cmpi .slt v2 c0_i32_6
  let v11 : BitVec 32 := Scalar.extui v10
  let v12 : BitVec 32 := Scalar.subi v9 v11
  let c32_i32_4 : BitVec 32 := 32#32
  let c0_i32_7 : BitVec 32 := 0#32
  let v13 : BitVec 1 := Scalar.cmpi .sgt c32_i32_4 c0_i32_7
  let v14 : BitVec 32 := Scalar.extui v13
  let c0_i32_8 : BitVec 32 := 0#32
  let v15 : BitVec 1 := Scalar.cmpi .slt c32_i32_4 c0_i32_8
  let v16 : BitVec 32 := Scalar.extui v15
  let v17 : BitVec 32 := Scalar.subi v14 v16
  let v18 : BitVec 1 := Scalar.cmpi .ne v12 v17
  let v19 : BitVec 32 := Scalar.remsi v2 c32_i32_4
  let c0_i32_9 : BitVec 32 := 0#32
  let v20 : BitVec 1 := Scalar.cmpi .ne v19 c0_i32_9
  let v21 : BitVec 1 := Scalar.andi v18 v20
  let v7 : BitVec 32 := Scalar.divsi v2 c32_i32_4
  let c1_i32_10 : BitVec 32 := 1#32
  let v22 : BitVec 32 := Scalar.subi v7 c1_i32_10
  let v23 : BitVec 32 := Scalar.select v21 v22 v7
  let c0_i32_11_r0 : BitVec 32 := 0#32
  ![v23.toNat, 0]
abbrev grid1 : Pipeline.Grid := .none

abbrev stage1_0 : Fin 1 → Memref sig .tc .vmem S18 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x32x18 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x32x4x84x84 : Shape := ⟨5, ![16, 32, 4, 84, 84]⟩
abbrev S18 : Shape := ⟨1, ![18]⟩
abbrev S_ : Shape := ⟨0, ![]⟩
abbrev S1x18 : Shape := ⟨2, ![1, 18]⟩
abbrev S512x18 : Shape := ⟨2, ![512, 18]⟩
abbrev S512 : Shape := ⟨1, ![512]⟩
abbrev S16x32 : Shape := ⟨2, ![16, 32]⟩
abbrev S512x1 : Shape := ⟨2, ![512, 1]⟩
abbrev S1 : Shape := ⟨1, ![1]⟩
abbrev S2 : Shape := ⟨1, ![2]⟩
abbrev S1x1 : Shape := ⟨2, ![1, 1]⟩
abbrev S16x32x18 : Shape := ⟨3, ![16, 32, 18]⟩

abbrev nBuf : Space → Nat
  | .hbm => 314
  | .vmem => 0
  | .smem => 0
  | _ => 0

abbrev hbmTy0_0 (i : Nat) : BufTy := match i % 128 with
  | 0 => ⟨S16x32x4x84x84, .f32⟩
  | 1 => ⟨S18, .f32⟩
  | 2 => ⟨S_, .i32⟩
  | 3 => ⟨S_, .f32⟩
  | 4 => ⟨S18, .f32⟩
  | 5 => ⟨S18, .f32⟩
  | 6 => ⟨S1x18, .f32⟩
  | 7 => ⟨S512x18, .f32⟩
  | 8 => ⟨S_, .f32⟩
  | 9 => ⟨S512, .f32⟩
  | 10 => ⟨S16x32, .f32⟩
  | 11 => ⟨S_, .f32⟩
  | 12 => ⟨S512, .f32⟩
  | 13 => ⟨S_, .f32⟩
  | 14 => ⟨S512, .f32⟩
  | 15 => ⟨S512, .f32⟩
  | 16 => ⟨S512x1, .f32⟩
  | 17 => ⟨S512x18, .f32⟩
  | 18 => ⟨S512x18, .f32⟩
  | 19 => ⟨S512x18, .f32⟩
  | 20 => ⟨S_, .f32⟩
  | 21 => ⟨S512, .f32⟩
  | 22 => ⟨S512x1, .f32⟩
  | 23 => ⟨S512x18, .f32⟩
  | 24 => ⟨S512x18, .f32⟩
  | 25 => ⟨S_, .i32⟩
  | 26 => ⟨S_, .i32⟩
  | 27 => ⟨S_, .i32⟩
  | 28 => ⟨S_, .i32⟩
  | 29 => ⟨S1, .i32⟩
  | 30 => ⟨S_, .i32⟩
  | 31 => ⟨S_, .i32⟩
  | 32 => ⟨S_, .i32⟩
  | 33 => ⟨S1, .i32⟩
  | 34 => ⟨S2, .i32⟩
  | 35 => ⟨S_, .f32⟩
  | 36 => ⟨S512x18, .f32⟩
  | 37 => ⟨S512x18, .f32⟩
  | 38 => ⟨S512x18, .f32⟩
  | 39 => ⟨S_, .f32⟩
  | 40 => ⟨S_, .f32⟩
  | 41 => ⟨S_, .f32⟩
  | 42 => ⟨S1x1, .f32⟩
  | 43 => ⟨S1x1, .f32⟩
  | 44 => ⟨S1, .i32⟩
  | 45 => ⟨S_, .i32⟩
  | 46 => ⟨S1, .i32⟩
  | 47 => ⟨S_, .i32⟩
  | 48 => ⟨S512x18, .i64⟩
  | 49 => ⟨S512x18, .i64⟩
  | 50 => ⟨S_, .i64⟩
  | 51 => ⟨S512x18, .i64⟩
  | 52 => ⟨S512x18, .i64⟩
  | 53 => ⟨S_, .i64⟩
  | 54 => ⟨S512x18, .i64⟩
  | 55 => ⟨S512x18, .i64⟩
  | 56 => ⟨S512x18, .i64⟩
  | 57 => ⟨S_, .i64⟩
  | 58 => ⟨S512x18, .i64⟩
  | 59 => ⟨S512x18, .i64⟩
  | 60 => ⟨S512x18, .i32⟩
  | 61 => ⟨S512x18, .i32⟩
  | 62 => ⟨S_, .i32⟩
  | 63 => ⟨S_, .i32⟩
  | 64 => ⟨S_, .i32⟩
  | 65 => ⟨S512x18, .i32⟩
  | 66 => ⟨S512x18, .i32⟩
  | 67 => ⟨S512x18, .i32⟩
  | 68 => ⟨S512x18, .i32⟩
  | 69 => ⟨S512x18, .i32⟩
  | 70 => ⟨S_, .i32⟩
  | 71 => ⟨S512x18, .i32⟩
  | 72 => ⟨S512x18, .i32⟩
  | 73 => ⟨S_, .i32⟩
  | 74 => ⟨S512x18, .i32⟩
  | 75 => ⟨S512x18, .i32⟩
  | 76 => ⟨S512x18, .i32⟩
  | 77 => ⟨S512x18, .i32⟩
  | 78 => ⟨S512x18, .i32⟩
  | 79 => ⟨S_, .i32⟩
  | 80 => ⟨S512x18, .i32⟩
  | 81 => ⟨S512x18, .i32⟩
  | 82 => ⟨S_, .i32⟩
  | 83 => ⟨S512x18, .i32⟩
  | 84 => ⟨S512x18, .i32⟩
  | 85 => ⟨S512x18, .i32⟩
  | 86 => ⟨S512x18, .i32⟩
  | 87 => ⟨S512x18, .i32⟩
  | 88 => ⟨S_, .i32⟩
  | 89 => ⟨S512x18, .i32⟩
  | 90 => ⟨S512x18, .i32⟩
  | 91 => ⟨S_, .i32⟩
  | 92 => ⟨S512x18, .i32⟩
  | 93 => ⟨S512x18, .i32⟩
  | 94 => ⟨S512x18, .i32⟩
  | 95 => ⟨S512x18, .i32⟩
  | 96 => ⟨S512x18, .i32⟩
  | 97 => ⟨S_, .i32⟩
  | 98 => ⟨S512x18, .i32⟩
  | 99 => ⟨S512x18, .i32⟩
  | 100 => ⟨S_, .i32⟩
  | 101 => ⟨S512x18, .i32⟩
  | 102 => ⟨S512x18, .i32⟩
  | 103 => ⟨S512x18, .i32⟩
  | 104 => ⟨S512x18, .i32⟩
  | 105 => ⟨S512x18, .i32⟩
  | 106 => ⟨S512x18, .i32⟩
  | 107 => ⟨S512x18, .i32⟩
  | 108 => ⟨S512x18, .i32⟩
  | 109 => ⟨S_, .i32⟩
  | 110 => ⟨S512x18, .i32⟩
  | 111 => ⟨S512x18, .i32⟩
  | 112 => ⟨S512x18, .i32⟩
  | 113 => ⟨S_, .i32⟩
  | 114 => ⟨S512x18, .i32⟩
  | 115 => ⟨S512x18, .i32⟩
  | 116 => ⟨S_, .i32⟩
  | 117 => ⟨S512x18, .i32⟩
  | 118 => ⟨S512x18, .i32⟩
  | 119 => ⟨S512x18, .i32⟩
  | 120 => ⟨S512x18, .i32⟩
  | 121 => ⟨S512x18, .i32⟩
  | 122 => ⟨S_, .i32⟩
  | 123 => ⟨S512x18, .i32⟩
  | 124 => ⟨S512x18, .i32⟩
  | 125 => ⟨S_, .i32⟩
  | 126 => ⟨S512x18, .i32⟩
  | 127 => ⟨S512x18, .i32⟩
  | _ => ⟨S16x32x4x84x84, .f32⟩

abbrev hbmTy0_1 (i : Nat) : BufTy := match i % 128 with
  | 0 => ⟨S512x18, .i32⟩
  | 1 => ⟨S512x18, .i32⟩
  | 2 => ⟨S512x18, .i32⟩
  | 3 => ⟨S_, .i32⟩
  | 4 => ⟨S512x18, .i32⟩
  | 5 => ⟨S512x18, .i32⟩
  | 6 => ⟨S_, .i32⟩
  | 7 => ⟨S512x18, .i32⟩
  | 8 => ⟨S512x18, .i32⟩
  | 9 => ⟨S512x18, .i32⟩
  | 10 => ⟨S512x18, .i32⟩
  | 11 => ⟨S512x18, .i32⟩
  | 12 => ⟨S_, .i32⟩
  | 13 => ⟨S512x18, .i32⟩
  | 14 => ⟨S512x18, .i32⟩
  | 15 => ⟨S_, .i32⟩
  | 16 => ⟨S512x18, .i32⟩
  | 17 => ⟨S512x18, .i32⟩
  | 18 => ⟨S512x18, .i32⟩
  | 19 => ⟨S512x18, .i32⟩
  | 20 => ⟨S512x18, .i32⟩
  | 21 => ⟨S512x18, .i32⟩
  | 22 => ⟨S512x18, .i32⟩
  | 23 => ⟨S512x18, .i32⟩
  | 24 => ⟨S_, .i32⟩
  | 25 => ⟨S512x18, .i32⟩
  | 26 => ⟨S512x18, .i32⟩
  | 27 => ⟨S512x18, .i32⟩
  | 28 => ⟨S_, .i32⟩
  | 29 => ⟨S512x18, .i32⟩
  | 30 => ⟨S512x18, .i32⟩
  | 31 => ⟨S_, .i32⟩
  | 32 => ⟨S512x18, .i32⟩
  | 33 => ⟨S512x18, .i32⟩
  | 34 => ⟨S512x18, .i32⟩
  | 35 => ⟨S512x18, .i32⟩
  | 36 => ⟨S512x18, .i32⟩
  | 37 => ⟨S_, .i32⟩
  | 38 => ⟨S512x18, .i32⟩
  | 39 => ⟨S512x18, .i32⟩
  | 40 => ⟨S_, .i32⟩
  | 41 => ⟨S512x18, .i32⟩
  | 42 => ⟨S512x18, .i32⟩
  | 43 => ⟨S512x18, .i32⟩
  | 44 => ⟨S512x18, .i32⟩
  | 45 => ⟨S512x18, .i32⟩
  | 46 => ⟨S_, .i32⟩
  | 47 => ⟨S512x18, .i32⟩
  | 48 => ⟨S512x18, .i32⟩
  | 49 => ⟨S_, .i32⟩
  | 50 => ⟨S512x18, .i32⟩
  | 51 => ⟨S512x18, .i32⟩
  | 52 => ⟨S512x18, .i32⟩
  | 53 => ⟨S512x18, .i32⟩
  | 54 => ⟨S512x18, .i32⟩
  | 55 => ⟨S_, .i32⟩
  | 56 => ⟨S512x18, .i32⟩
  | 57 => ⟨S512x18, .i32⟩
  | 58 => ⟨S_, .i32⟩
  | 59 => ⟨S512x18, .i32⟩
  | 60 => ⟨S512x18, .i32⟩
  | 61 => ⟨S512x18, .i32⟩
  | 62 => ⟨S512x18, .i32⟩
  | 63 => ⟨S512x18, .i32⟩
  | 64 => ⟨S512x18, .i32⟩
  | 65 => ⟨S512x18, .i32⟩
  | 66 => ⟨S512x18, .i32⟩
  | 67 => ⟨S_, .i32⟩
  | 68 => ⟨S512x18, .i32⟩
  | 69 => ⟨S512x18, .i32⟩
  | 70 => ⟨S512x18, .i32⟩
  | 71 => ⟨S_, .i32⟩
  | 72 => ⟨S512x18, .i32⟩
  | 73 => ⟨S512x18, .i32⟩
  | 74 => ⟨S_, .i32⟩
  | 75 => ⟨S512x18, .i32⟩
  | 76 => ⟨S512x18, .i32⟩
  | 77 => ⟨S512x18, .i32⟩
  | 78 => ⟨S512x18, .i32⟩
  | 79 => ⟨S512x18, .i32⟩
  | 80 => ⟨S_, .i32⟩
  | 81 => ⟨S512x18, .i32⟩
  | 82 => ⟨S512x18, .i32⟩
  | 83 => ⟨S_, .i32⟩
  | 84 => ⟨S512x18, .i32⟩
  | 85 => ⟨S512x18, .i32⟩
  | 86 => ⟨S512x18, .i32⟩
  | 87 => ⟨S512x18, .i32⟩
  | 88 => ⟨S512x18, .i32⟩
  | 89 => ⟨S_, .i32⟩
  | 90 => ⟨S512x18, .i32⟩
  | 91 => ⟨S512x18, .i32⟩
  | 92 => ⟨S_, .i32⟩
  | 93 => ⟨S512x18, .i32⟩
  | 94 => ⟨S512x18, .i32⟩
  | 95 => ⟨S512x18, .i32⟩
  | 96 => ⟨S512x18, .i32⟩
  | 97 => ⟨S512x18, .i32⟩
  | 98 => ⟨S_, .i32⟩
  | 99 => ⟨S512x18, .i32⟩
  | 100 => ⟨S512x18, .i32⟩
  | 101 => ⟨S_, .i32⟩
  | 102 => ⟨S512x18, .i32⟩
  | 103 => ⟨S512x18, .i32⟩
  | 104 => ⟨S512x18, .i32⟩
  | 105 => ⟨S512x18, .i32⟩
  | 106 => ⟨S512x18, .i32⟩
  | 107 => ⟨S512x18, .i32⟩
  | 108 => ⟨S512x18, .i32⟩
  | 109 => ⟨S512x18, .i32⟩
  | 110 => ⟨S_, .i32⟩
  | 111 => ⟨S512x18, .i32⟩
  | 112 => ⟨S512x18, .i32⟩
  | 113 => ⟨S512x18, .i32⟩
  | 114 => ⟨S_, .i32⟩
  | 115 => ⟨S512x18, .i32⟩
  | 116 => ⟨S512x18, .i32⟩
  | 117 => ⟨S_, .i32⟩
  | 118 => ⟨S512x18, .i32⟩
  | 119 => ⟨S512x18, .i32⟩
  | 120 => ⟨S512x18, .i32⟩
  | 121 => ⟨S512x18, .i32⟩
  | 122 => ⟨S512x18, .i32⟩
  | 123 => ⟨S_, .i32⟩
  | 124 => ⟨S512x18, .i32⟩
  | 125 => ⟨S512x18, .i32⟩
  | 126 => ⟨S_, .i32⟩
  | 127 => ⟨S512x18, .i32⟩
  | _ => ⟨S16x32x4x84x84, .f32⟩

abbrev hbmTy0_2 (i : Nat) : BufTy := match i % 128 with
  | 0 => ⟨S512x18, .i32⟩
  | 1 => ⟨S512x18, .i32⟩
  | 2 => ⟨S512x18, .i32⟩
  | 3 => ⟨S512x18, .i32⟩
  | 4 => ⟨S_, .i32⟩
  | 5 => ⟨S512x18, .i32⟩
  | 6 => ⟨S512x18, .i32⟩
  | 7 => ⟨S_, .i32⟩
  | 8 => ⟨S512x18, .i32⟩
  | 9 => ⟨S512x18, .i32⟩
  | 10 => ⟨S512x18, .i32⟩
  | 11 => ⟨S512x18, .i32⟩
  | 12 => ⟨S512x18, .i32⟩
  | 13 => ⟨S_, .i32⟩
  | 14 => ⟨S512x18, .i32⟩
  | 15 => ⟨S512x18, .i32⟩
  | 16 => ⟨S_, .i32⟩
  | 17 => ⟨S512x18, .i32⟩
  | 18 => ⟨S512x18, .i32⟩
  | 19 => ⟨S512x18, .i32⟩
  | 20 => ⟨S512x18, .i32⟩
  | 21 => ⟨S512x18, .i32⟩
  | 22 => ⟨S512x18, .i32⟩
  | 23 => ⟨S512x18, .i32⟩
  | 24 => ⟨S512x18, .i32⟩
  | 25 => ⟨S_, .i32⟩
  | 26 => ⟨S512x18, .i32⟩
  | 27 => ⟨S512x18, .i32⟩
  | 28 => ⟨S512x18, .i32⟩
  | 29 => ⟨S_, .i32⟩
  | 30 => ⟨S512x18, .i32⟩
  | 31 => ⟨S512x18, .i32⟩
  | 32 => ⟨S_, .i32⟩
  | 33 => ⟨S512x18, .i32⟩
  | 34 => ⟨S512x18, .i32⟩
  | 35 => ⟨S512x18, .f32⟩
  | 36 => ⟨S_, .f32⟩
  | 37 => ⟨S512x18, .f32⟩
  | 38 => ⟨S512x18, .f32⟩
  | 39 => ⟨S1x1, .f32⟩
  | 40 => ⟨S512x18, .f32⟩
  | 41 => ⟨S512x18, .f32⟩
  | 42 => ⟨S512x18, .f32⟩
  | 43 => ⟨S512x18, .f32⟩
  | 44 => ⟨S512x18, .f32⟩
  | 45 => ⟨S512x18, .f32⟩
  | 46 => ⟨S512x18, .f32⟩
  | 47 => ⟨S512x18, .f32⟩
  | 48 => ⟨S512x18, .f32⟩
  | 49 => ⟨S512x18, .f32⟩
  | 50 => ⟨S512x18, .f32⟩
  | 51 => ⟨S512x18, .i32⟩
  | 52 => ⟨S_, .f32⟩
  | 53 => ⟨S_, .i32⟩
  | 54 => ⟨S512, .f32⟩
  | 55 => ⟨S512, .i32⟩
  | 56 => ⟨S16x32, .i32⟩
  | 57 => ⟨S16x32x18, .f32⟩
  | _ => ⟨S16x32x4x84x84, .f32⟩

abbrev hbmTy (i : Nat) : BufTy := match i / 128 with
  | 0 => hbmTy0_0 i
  | 1 => hbmTy0_1 i
  | 2 => hbmTy0_2 i
  | _ => ⟨S16x32x4x84x84, .f32⟩

abbrev bufTy : (tb : Table) → Fin (tcTables nBuf tb) → BufTy
  | .hbm, ⟨i, _⟩ => hbmTy i
  | _, _ => ⟨S16x32x4x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_cst_0 : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_c : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_c_0 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_1 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_v16 : Ref sig .tc := ⟨.hbm, 60, rfl⟩
abbrev main_call0_call0_v17 : Ref sig .tc := ⟨.hbm, 61, rfl⟩
abbrev main_call0_call0_call0_v0 : Ref sig .tc := ⟨.hbm, 62, rfl⟩
abbrev main_call0_call0_call0_c : Ref sig .tc := ⟨.hbm, 63, rfl⟩
abbrev main_call0_call0_call0_v1 : Ref sig .tc := ⟨.hbm, 64, rfl⟩
abbrev main_call0_call0_call0_v2 : Ref sig .tc := ⟨.hbm, 65, rfl⟩
abbrev main_call0_call0_call0_v3 : Ref sig .tc := ⟨.hbm, 66, rfl⟩
abbrev main_call0_call0_call0_v4 : Ref sig .tc := ⟨.hbm, 67, rfl⟩
abbrev main_call0_call0_call0_v5 : Ref sig .tc := ⟨.hbm, 68, rfl⟩
abbrev main_call0_call0_call0_v6 : Ref sig .tc := ⟨.hbm, 69, rfl⟩
abbrev main_call0_call0_call0_c_0 : Ref sig .tc := ⟨.hbm, 70, rfl⟩
abbrev main_call0_call0_call0_v7 : Ref sig .tc := ⟨.hbm, 71, rfl⟩
abbrev main_call0_call0_call0_v8 : Ref sig .tc := ⟨.hbm, 72, rfl⟩
abbrev main_call0_call0_call0_c_1 : Ref sig .tc := ⟨.hbm, 73, rfl⟩
abbrev main_call0_call0_call0_v9 : Ref sig .tc := ⟨.hbm, 74, rfl⟩
abbrev main_call0_call0_call0_v10 : Ref sig .tc := ⟨.hbm, 75, rfl⟩
abbrev main_call0_call0_call0_v11 : Ref sig .tc := ⟨.hbm, 76, rfl⟩
abbrev main_call0_call0_call0_v12 : Ref sig .tc := ⟨.hbm, 77, rfl⟩
abbrev main_call0_call0_call0_v13 : Ref sig .tc := ⟨.hbm, 78, rfl⟩
abbrev main_call0_call0_call0_c_2 : Ref sig .tc := ⟨.hbm, 79, rfl⟩
abbrev main_call0_call0_call0_v14 : Ref sig .tc := ⟨.hbm, 80, rfl⟩
abbrev main_call0_call0_call0_v15 : Ref sig .tc := ⟨.hbm, 81, rfl⟩
abbrev main_call0_call0_call0_c_3 : Ref sig .tc := ⟨.hbm, 82, rfl⟩
abbrev main_call0_call0_call0_v16 : Ref sig .tc := ⟨.hbm, 83, rfl⟩
abbrev main_call0_call0_call0_v17 : Ref sig .tc := ⟨.hbm, 84, rfl⟩
abbrev main_call0_call0_call0_v18 : Ref sig .tc := ⟨.hbm, 85, rfl⟩
abbrev main_call0_call0_call0_v19 : Ref sig .tc := ⟨.hbm, 86, rfl⟩
abbrev main_call0_call0_call0_v20 : Ref sig .tc := ⟨.hbm, 87, rfl⟩
abbrev main_call0_call0_call0_c_4 : Ref sig .tc := ⟨.hbm, 88, rfl⟩
abbrev main_call0_call0_call0_v21 : Ref sig .tc := ⟨.hbm, 89, rfl⟩
abbrev main_call0_call0_call0_v22 : Ref sig .tc := ⟨.hbm, 90, rfl⟩
abbrev main_call0_call0_call0_c_5 : Ref sig .tc := ⟨.hbm, 91, rfl⟩
abbrev main_call0_call0_call0_v23 : Ref sig .tc := ⟨.hbm, 92, rfl⟩
abbrev main_call0_call0_call0_v24 : Ref sig .tc := ⟨.hbm, 93, rfl⟩
abbrev main_call0_call0_call0_v25 : Ref sig .tc := ⟨.hbm, 94, rfl⟩
abbrev main_call0_call0_call0_v26 : Ref sig .tc := ⟨.hbm, 95, rfl⟩
abbrev main_call0_call0_call0_v27 : Ref sig .tc := ⟨.hbm, 96, rfl⟩
abbrev main_call0_call0_call0_c_6 : Ref sig .tc := ⟨.hbm, 97, rfl⟩
abbrev main_call0_call0_call0_v28 : Ref sig .tc := ⟨.hbm, 98, rfl⟩
abbrev main_call0_call0_call0_v29 : Ref sig .tc := ⟨.hbm, 99, rfl⟩
abbrev main_call0_call0_call0_c_7 : Ref sig .tc := ⟨.hbm, 100, rfl⟩
abbrev main_call0_call0_call0_v30 : Ref sig .tc := ⟨.hbm, 101, rfl⟩
abbrev main_call0_call0_call0_v31 : Ref sig .tc := ⟨.hbm, 102, rfl⟩
abbrev main_call0_call0_call0_v32 : Ref sig .tc := ⟨.hbm, 103, rfl⟩
abbrev main_call0_call0_call0_v33 : Ref sig .tc := ⟨.hbm, 104, rfl⟩
abbrev main_call0_call0_call0_v34 : Ref sig .tc := ⟨.hbm, 105, rfl⟩
abbrev main_call0_call0_call0_v35 : Ref sig .tc := ⟨.hbm, 106, rfl⟩
abbrev main_call0_call0_call0_v36 : Ref sig .tc := ⟨.hbm, 107, rfl⟩
abbrev main_call0_call0_call0_v37 : Ref sig .tc := ⟨.hbm, 108, rfl⟩
abbrev main_call0_call0_call0_c_8 : Ref sig .tc := ⟨.hbm, 109, rfl⟩
abbrev main_call0_call0_call0_v38 : Ref sig .tc := ⟨.hbm, 110, rfl⟩
abbrev main_call0_call0_call0_v39 : Ref sig .tc := ⟨.hbm, 111, rfl⟩
abbrev main_call0_call0_call0_v40 : Ref sig .tc := ⟨.hbm, 112, rfl⟩
abbrev main_call0_call0_call0_c_9 : Ref sig .tc := ⟨.hbm, 113, rfl⟩
abbrev main_call0_call0_call0_v41 : Ref sig .tc := ⟨.hbm, 114, rfl⟩
abbrev main_call0_call0_call0_v42 : Ref sig .tc := ⟨.hbm, 115, rfl⟩
abbrev main_call0_call0_call0_c_10 : Ref sig .tc := ⟨.hbm, 116, rfl⟩
abbrev main_call0_call0_call0_v43 : Ref sig .tc := ⟨.hbm, 117, rfl⟩
abbrev main_call0_call0_call0_v44 : Ref sig .tc := ⟨.hbm, 118, rfl⟩
abbrev main_call0_call0_call0_v45 : Ref sig .tc := ⟨.hbm, 119, rfl⟩
abbrev main_call0_call0_call0_v46 : Ref sig .tc := ⟨.hbm, 120, rfl⟩
abbrev main_call0_call0_call0_v47 : Ref sig .tc := ⟨.hbm, 121, rfl⟩
abbrev main_call0_call0_call0_c_11 : Ref sig .tc := ⟨.hbm, 122, rfl⟩
abbrev main_call0_call0_call0_v48 : Ref sig .tc := ⟨.hbm, 123, rfl⟩
abbrev main_call0_call0_call0_v49 : Ref sig .tc := ⟨.hbm, 124, rfl⟩
abbrev main_call0_call0_call0_c_12 : Ref sig .tc := ⟨.hbm, 125, rfl⟩
abbrev main_call0_call0_call0_v50 : Ref sig .tc := ⟨.hbm, 126, rfl⟩
abbrev main_call0_call0_call0_v51 : Ref sig .tc := ⟨.hbm, 127, rfl⟩
abbrev main_call0_call0_call0_v52 : Ref sig .tc := ⟨.hbm, 128, rfl⟩
abbrev main_call0_call0_call0_v53 : Ref sig .tc := ⟨.hbm, 129, rfl⟩
abbrev main_call0_call0_call0_v54 : Ref sig .tc := ⟨.hbm, 130, rfl⟩
abbrev main_call0_call0_call0_c_13 : Ref sig .tc := ⟨.hbm, 131, rfl⟩
abbrev main_call0_call0_call0_v55 : Ref sig .tc := ⟨.hbm, 132, rfl⟩
abbrev main_call0_call0_call0_v56 : Ref sig .tc := ⟨.hbm, 133, rfl⟩
abbrev main_call0_call0_call0_c_14 : Ref sig .tc := ⟨.hbm, 134, rfl⟩
abbrev main_call0_call0_call0_v57 : Ref sig .tc := ⟨.hbm, 135, rfl⟩
abbrev main_call0_call0_call0_v58 : Ref sig .tc := ⟨.hbm, 136, rfl⟩
abbrev main_call0_call0_call0_v59 : Ref sig .tc := ⟨.hbm, 137, rfl⟩
abbrev main_call0_call0_call0_v60 : Ref sig .tc := ⟨.hbm, 138, rfl⟩
abbrev main_call0_call0_call0_v61 : Ref sig .tc := ⟨.hbm, 139, rfl⟩
abbrev main_call0_call0_call0_c_15 : Ref sig .tc := ⟨.hbm, 140, rfl⟩
abbrev main_call0_call0_call0_v62 : Ref sig .tc := ⟨.hbm, 141, rfl⟩
abbrev main_call0_call0_call0_v63 : Ref sig .tc := ⟨.hbm, 142, rfl⟩
abbrev main_call0_call0_call0_c_16 : Ref sig .tc := ⟨.hbm, 143, rfl⟩
abbrev main_call0_call0_call0_v64 : Ref sig .tc := ⟨.hbm, 144, rfl⟩
abbrev main_call0_call0_call0_v65 : Ref sig .tc := ⟨.hbm, 145, rfl⟩
abbrev main_call0_call0_call0_v66 : Ref sig .tc := ⟨.hbm, 146, rfl⟩
abbrev main_call0_call0_call0_v67 : Ref sig .tc := ⟨.hbm, 147, rfl⟩
abbrev main_call0_call0_call0_v68 : Ref sig .tc := ⟨.hbm, 148, rfl⟩
abbrev main_call0_call0_call0_v69 : Ref sig .tc := ⟨.hbm, 149, rfl⟩
abbrev main_call0_call0_call0_v70 : Ref sig .tc := ⟨.hbm, 150, rfl⟩
abbrev main_call0_call0_call0_v71 : Ref sig .tc := ⟨.hbm, 151, rfl⟩
abbrev main_call0_call0_call0_c_17 : Ref sig .tc := ⟨.hbm, 152, rfl⟩
abbrev main_call0_call0_call0_v72 : Ref sig .tc := ⟨.hbm, 153, rfl⟩
abbrev main_call0_call0_call0_v73 : Ref sig .tc := ⟨.hbm, 154, rfl⟩
abbrev main_call0_call0_call0_v74 : Ref sig .tc := ⟨.hbm, 155, rfl⟩
abbrev main_call0_call0_call0_c_18 : Ref sig .tc := ⟨.hbm, 156, rfl⟩
abbrev main_call0_call0_call0_v75 : Ref sig .tc := ⟨.hbm, 157, rfl⟩
abbrev main_call0_call0_call0_v76 : Ref sig .tc := ⟨.hbm, 158, rfl⟩
abbrev main_call0_call0_call0_c_19 : Ref sig .tc := ⟨.hbm, 159, rfl⟩
abbrev main_call0_call0_call0_v77 : Ref sig .tc := ⟨.hbm, 160, rfl⟩
abbrev main_call0_call0_call0_v78 : Ref sig .tc := ⟨.hbm, 161, rfl⟩
abbrev main_call0_call0_call0_v79 : Ref sig .tc := ⟨.hbm, 162, rfl⟩
abbrev main_call0_call0_call0_v80 : Ref sig .tc := ⟨.hbm, 163, rfl⟩
abbrev main_call0_call0_call0_v81 : Ref sig .tc := ⟨.hbm, 164, rfl⟩
abbrev main_call0_call0_call0_c_20 : Ref sig .tc := ⟨.hbm, 165, rfl⟩
abbrev main_call0_call0_call0_v82 : Ref sig .tc := ⟨.hbm, 166, rfl⟩
abbrev main_call0_call0_call0_v83 : Ref sig .tc := ⟨.hbm, 167, rfl⟩
abbrev main_call0_call0_call0_c_21 : Ref sig .tc := ⟨.hbm, 168, rfl⟩
abbrev main_call0_call0_call0_v84 : Ref sig .tc := ⟨.hbm, 169, rfl⟩
abbrev main_call0_call0_call0_v85 : Ref sig .tc := ⟨.hbm, 170, rfl⟩
abbrev main_call0_call0_call0_v86 : Ref sig .tc := ⟨.hbm, 171, rfl⟩
abbrev main_call0_call0_call0_v87 : Ref sig .tc := ⟨.hbm, 172, rfl⟩
abbrev main_call0_call0_call0_v88 : Ref sig .tc := ⟨.hbm, 173, rfl⟩
abbrev main_call0_call0_call0_c_22 : Ref sig .tc := ⟨.hbm, 174, rfl⟩
abbrev main_call0_call0_call0_v89 : Ref sig .tc := ⟨.hbm, 175, rfl⟩
abbrev main_call0_call0_call0_v90 : Ref sig .tc := ⟨.hbm, 176, rfl⟩
abbrev main_call0_call0_call0_c_23 : Ref sig .tc := ⟨.hbm, 177, rfl⟩
abbrev main_call0_call0_call0_v91 : Ref sig .tc := ⟨.hbm, 178, rfl⟩
abbrev main_call0_call0_call0_v92 : Ref sig .tc := ⟨.hbm, 179, rfl⟩
abbrev main_call0_call0_call0_v93 : Ref sig .tc := ⟨.hbm, 180, rfl⟩
abbrev main_call0_call0_call0_v94 : Ref sig .tc := ⟨.hbm, 181, rfl⟩
abbrev main_call0_call0_call0_v95 : Ref sig .tc := ⟨.hbm, 182, rfl⟩
abbrev main_call0_call0_call0_c_24 : Ref sig .tc := ⟨.hbm, 183, rfl⟩
abbrev main_call0_call0_call0_v96 : Ref sig .tc := ⟨.hbm, 184, rfl⟩
abbrev main_call0_call0_call0_v97 : Ref sig .tc := ⟨.hbm, 185, rfl⟩
abbrev main_call0_call0_call0_c_25 : Ref sig .tc := ⟨.hbm, 186, rfl⟩
abbrev main_call0_call0_call0_v98 : Ref sig .tc := ⟨.hbm, 187, rfl⟩
abbrev main_call0_call0_call0_v99 : Ref sig .tc := ⟨.hbm, 188, rfl⟩
abbrev main_call0_call0_call0_v100 : Ref sig .tc := ⟨.hbm, 189, rfl⟩
abbrev main_call0_call0_call0_v101 : Ref sig .tc := ⟨.hbm, 190, rfl⟩
abbrev main_call0_call0_call0_v102 : Ref sig .tc := ⟨.hbm, 191, rfl⟩
abbrev main_call0_call0_call0_v103 : Ref sig .tc := ⟨.hbm, 192, rfl⟩
abbrev main_call0_call0_call0_v104 : Ref sig .tc := ⟨.hbm, 193, rfl⟩
abbrev main_call0_call0_call0_v105 : Ref sig .tc := ⟨.hbm, 194, rfl⟩
abbrev main_call0_call0_call0_c_26 : Ref sig .tc := ⟨.hbm, 195, rfl⟩
abbrev main_call0_call0_call0_v106 : Ref sig .tc := ⟨.hbm, 196, rfl⟩
abbrev main_call0_call0_call0_v107 : Ref sig .tc := ⟨.hbm, 197, rfl⟩
abbrev main_call0_call0_call0_v108 : Ref sig .tc := ⟨.hbm, 198, rfl⟩
abbrev main_call0_call0_call0_c_27 : Ref sig .tc := ⟨.hbm, 199, rfl⟩
abbrev main_call0_call0_call0_v109 : Ref sig .tc := ⟨.hbm, 200, rfl⟩
abbrev main_call0_call0_call0_v110 : Ref sig .tc := ⟨.hbm, 201, rfl⟩
abbrev main_call0_call0_call0_c_28 : Ref sig .tc := ⟨.hbm, 202, rfl⟩
abbrev main_call0_call0_call0_v111 : Ref sig .tc := ⟨.hbm, 203, rfl⟩
abbrev main_call0_call0_call0_v112 : Ref sig .tc := ⟨.hbm, 204, rfl⟩
abbrev main_call0_call0_call0_v113 : Ref sig .tc := ⟨.hbm, 205, rfl⟩
abbrev main_call0_call0_call0_v114 : Ref sig .tc := ⟨.hbm, 206, rfl⟩
abbrev main_call0_call0_call0_v115 : Ref sig .tc := ⟨.hbm, 207, rfl⟩
abbrev main_call0_call0_call0_c_29 : Ref sig .tc := ⟨.hbm, 208, rfl⟩
abbrev main_call0_call0_call0_v116 : Ref sig .tc := ⟨.hbm, 209, rfl⟩
abbrev main_call0_call0_call0_v117 : Ref sig .tc := ⟨.hbm, 210, rfl⟩
abbrev main_call0_call0_call0_c_30 : Ref sig .tc := ⟨.hbm, 211, rfl⟩
abbrev main_call0_call0_call0_v118 : Ref sig .tc := ⟨.hbm, 212, rfl⟩
abbrev main_call0_call0_call0_v119 : Ref sig .tc := ⟨.hbm, 213, rfl⟩
abbrev main_call0_call0_call0_v120 : Ref sig .tc := ⟨.hbm, 214, rfl⟩
abbrev main_call0_call0_call0_v121 : Ref sig .tc := ⟨.hbm, 215, rfl⟩
abbrev main_call0_call0_call0_v122 : Ref sig .tc := ⟨.hbm, 216, rfl⟩
abbrev main_call0_call0_call0_c_31 : Ref sig .tc := ⟨.hbm, 217, rfl⟩
abbrev main_call0_call0_call0_v123 : Ref sig .tc := ⟨.hbm, 218, rfl⟩
abbrev main_call0_call0_call0_v124 : Ref sig .tc := ⟨.hbm, 219, rfl⟩
abbrev main_call0_call0_call0_c_32 : Ref sig .tc := ⟨.hbm, 220, rfl⟩
abbrev main_call0_call0_call0_v125 : Ref sig .tc := ⟨.hbm, 221, rfl⟩
abbrev main_call0_call0_call0_v126 : Ref sig .tc := ⟨.hbm, 222, rfl⟩
abbrev main_call0_call0_call0_v127 : Ref sig .tc := ⟨.hbm, 223, rfl⟩
abbrev main_call0_call0_call0_v128 : Ref sig .tc := ⟨.hbm, 224, rfl⟩
abbrev main_call0_call0_call0_v129 : Ref sig .tc := ⟨.hbm, 225, rfl⟩
abbrev main_call0_call0_call0_c_33 : Ref sig .tc := ⟨.hbm, 226, rfl⟩
abbrev main_call0_call0_call0_v130 : Ref sig .tc := ⟨.hbm, 227, rfl⟩
abbrev main_call0_call0_call0_v131 : Ref sig .tc := ⟨.hbm, 228, rfl⟩
abbrev main_call0_call0_call0_c_34 : Ref sig .tc := ⟨.hbm, 229, rfl⟩
abbrev main_call0_call0_call0_v132 : Ref sig .tc := ⟨.hbm, 230, rfl⟩
abbrev main_call0_call0_call0_v133 : Ref sig .tc := ⟨.hbm, 231, rfl⟩
abbrev main_call0_call0_call0_v134 : Ref sig .tc := ⟨.hbm, 232, rfl⟩
abbrev main_call0_call0_call0_v135 : Ref sig .tc := ⟨.hbm, 233, rfl⟩
abbrev main_call0_call0_call0_v136 : Ref sig .tc := ⟨.hbm, 234, rfl⟩
abbrev main_call0_call0_call0_v137 : Ref sig .tc := ⟨.hbm, 235, rfl⟩
abbrev main_call0_call0_call0_v138 : Ref sig .tc := ⟨.hbm, 236, rfl⟩
abbrev main_call0_call0_call0_v139 : Ref sig .tc := ⟨.hbm, 237, rfl⟩
abbrev main_call0_call0_call0_c_35 : Ref sig .tc := ⟨.hbm, 238, rfl⟩
abbrev main_call0_call0_call0_v140 : Ref sig .tc := ⟨.hbm, 239, rfl⟩
abbrev main_call0_call0_call0_v141 : Ref sig .tc := ⟨.hbm, 240, rfl⟩
abbrev main_call0_call0_call0_v142 : Ref sig .tc := ⟨.hbm, 241, rfl⟩
abbrev main_call0_call0_call0_c_36 : Ref sig .tc := ⟨.hbm, 242, rfl⟩
abbrev main_call0_call0_call0_v143 : Ref sig .tc := ⟨.hbm, 243, rfl⟩
abbrev main_call0_call0_call0_v144 : Ref sig .tc := ⟨.hbm, 244, rfl⟩
abbrev main_call0_call0_call0_c_37 : Ref sig .tc := ⟨.hbm, 245, rfl⟩
abbrev main_call0_call0_call0_v145 : Ref sig .tc := ⟨.hbm, 246, rfl⟩
abbrev main_call0_call0_call0_v146 : Ref sig .tc := ⟨.hbm, 247, rfl⟩
abbrev main_call0_call0_call0_v147 : Ref sig .tc := ⟨.hbm, 248, rfl⟩
abbrev main_call0_call0_call0_v148 : Ref sig .tc := ⟨.hbm, 249, rfl⟩
abbrev main_call0_call0_call0_v149 : Ref sig .tc := ⟨.hbm, 250, rfl⟩
abbrev main_call0_call0_call0_c_38 : Ref sig .tc := ⟨.hbm, 251, rfl⟩
abbrev main_call0_call0_call0_v150 : Ref sig .tc := ⟨.hbm, 252, rfl⟩
abbrev main_call0_call0_call0_v151 : Ref sig .tc := ⟨.hbm, 253, rfl⟩
abbrev main_call0_call0_call0_c_39 : Ref sig .tc := ⟨.hbm, 254, rfl⟩
abbrev main_call0_call0_call0_v152 : Ref sig .tc := ⟨.hbm, 255, rfl⟩
abbrev main_call0_call0_call0_v153 : Ref sig .tc := ⟨.hbm, 256, rfl⟩
abbrev main_call0_call0_call0_v154 : Ref sig .tc := ⟨.hbm, 257, rfl⟩
abbrev main_call0_call0_call0_v155 : Ref sig .tc := ⟨.hbm, 258, rfl⟩
abbrev main_call0_call0_call0_v156 : Ref sig .tc := ⟨.hbm, 259, rfl⟩
abbrev main_call0_call0_call0_c_40 : Ref sig .tc := ⟨.hbm, 260, rfl⟩
abbrev main_call0_call0_call0_v157 : Ref sig .tc := ⟨.hbm, 261, rfl⟩
abbrev main_call0_call0_call0_v158 : Ref sig .tc := ⟨.hbm, 262, rfl⟩
abbrev main_call0_call0_call0_c_41 : Ref sig .tc := ⟨.hbm, 263, rfl⟩
abbrev main_call0_call0_call0_v159 : Ref sig .tc := ⟨.hbm, 264, rfl⟩
abbrev main_call0_call0_call0_v160 : Ref sig .tc := ⟨.hbm, 265, rfl⟩
abbrev main_call0_call0_call0_v161 : Ref sig .tc := ⟨.hbm, 266, rfl⟩
abbrev main_call0_call0_call0_v162 : Ref sig .tc := ⟨.hbm, 267, rfl⟩
abbrev main_call0_call0_call0_v163 : Ref sig .tc := ⟨.hbm, 268, rfl⟩
abbrev main_call0_call0_call0_c_42 : Ref sig .tc := ⟨.hbm, 269, rfl⟩
abbrev main_call0_call0_call0_v164 : Ref sig .tc := ⟨.hbm, 270, rfl⟩
abbrev main_call0_call0_call0_v165 : Ref sig .tc := ⟨.hbm, 271, rfl⟩
abbrev main_call0_call0_call0_c_43 : Ref sig .tc := ⟨.hbm, 272, rfl⟩
abbrev main_call0_call0_call0_v166 : Ref sig .tc := ⟨.hbm, 273, rfl⟩
abbrev main_call0_call0_call0_v167 : Ref sig .tc := ⟨.hbm, 274, rfl⟩
abbrev main_call0_call0_call0_v168 : Ref sig .tc := ⟨.hbm, 275, rfl⟩
abbrev main_call0_call0_call0_v169 : Ref sig .tc := ⟨.hbm, 276, rfl⟩
abbrev main_call0_call0_call0_v170 : Ref sig .tc := ⟨.hbm, 277, rfl⟩
abbrev main_call0_call0_v18_0 : Ref sig .tc := ⟨.hbm, 278, rfl⟩
abbrev main_call0_call0_call0_v172 : Ref sig .tc := ⟨.hbm, 279, rfl⟩
abbrev main_call0_call0_call0_v173 : Ref sig .tc := ⟨.hbm, 280, rfl⟩
abbrev main_call0_call0_call0_c_44 : Ref sig .tc := ⟨.hbm, 281, rfl⟩
abbrev main_call0_call0_call0_v174 : Ref sig .tc := ⟨.hbm, 282, rfl⟩
abbrev main_call0_call0_v18_1 : Ref sig .tc := ⟨.hbm, 283, rfl⟩
abbrev main_call0_call0_v19 : Ref sig .tc := ⟨.hbm, 284, rfl⟩
abbrev main_call0_call0_c_2 : Ref sig .tc := ⟨.hbm, 285, rfl⟩
abbrev main_call0_call0_v20 : Ref sig .tc := ⟨.hbm, 286, rfl⟩
abbrev main_call0_call0_v21 : Ref sig .tc := ⟨.hbm, 287, rfl⟩
abbrev main_call0_call0_c_3 : Ref sig .tc := ⟨.hbm, 288, rfl⟩
abbrev main_call0_call0_v22 : Ref sig .tc := ⟨.hbm, 289, rfl⟩
abbrev main_call0_call0_v23 : Ref sig .tc := ⟨.hbm, 290, rfl⟩
abbrev main_call0_call0_v24 : Ref sig .tc := ⟨.hbm, 291, rfl⟩
abbrev main_call0_call0_cst : Ref sig .tc := ⟨.hbm, 292, rfl⟩
abbrev main_call0_call0_v25 : Ref sig .tc := ⟨.hbm, 293, rfl⟩
abbrev main_call0_call0_v26 : Ref sig .tc := ⟨.hbm, 294, rfl⟩
abbrev main_call0_call0_v27 : Ref sig .tc := ⟨.hbm, 295, rfl⟩
abbrev main_call0_call0_v28 : Ref sig .tc := ⟨.hbm, 296, rfl⟩
abbrev main_call0_call0_v29 : Ref sig .tc := ⟨.hbm, 297, rfl⟩
abbrev main_call0_call0_v30 : Ref sig .tc := ⟨.hbm, 298, rfl⟩
abbrev main_call0_call0_v31 : Ref sig .tc := ⟨.hbm, 299, rfl⟩
abbrev main_call0_call0_v32 : Ref sig .tc := ⟨.hbm, 300, rfl⟩
abbrev main_call0_v0 : Ref sig .tc := ⟨.hbm, 301, rfl⟩
abbrev main_call0_v1 : Ref sig .tc := ⟨.hbm, 302, rfl⟩
abbrev main_call0_v2 : Ref sig .tc := ⟨.hbm, 303, rfl⟩
abbrev main_call0_v3 : Ref sig .tc := ⟨.hbm, 304, rfl⟩
abbrev main_v27 : Ref sig .tc := ⟨.hbm, 305, rfl⟩
abbrev main_v28 : Ref sig .tc := ⟨.hbm, 306, rfl⟩
abbrev main_call1_v0 : Ref sig .tc := ⟨.hbm, 307, rfl⟩
abbrev main_call1_cst : Ref sig .tc := ⟨.hbm, 308, rfl⟩
abbrev main_call1_c : Ref sig .tc := ⟨.hbm, 309, rfl⟩
abbrev main_call1_v1_0 : Ref sig .tc := ⟨.hbm, 310, rfl⟩
abbrev main_v29 : Ref sig .tc := ⟨.hbm, 311, rfl⟩
abbrev main_v30 : Ref sig .tc := ⟨.hbm, 312, rfl⟩
abbrev main_v31 : Ref sig .tc := ⟨.hbm, 313, rfl⟩

abbrev nD : Nat := 1
abbrev τ : Topo := Topo.v7x

variable {F : FTy → Type} [FloatOps F]
-- ==== Proof.Threefry.lean ====
/-
  The counter-based random bits that both programs draw: the Threefry-2x32 block cipher under the key (0, 123), one word at a time,
  and the sampler's choice of an action from the eighteen words of a row.
-/
module

public import Idealize.ShloMosaic.Lib.Claim

@[expose] public section

namespace Cert.Proof.Threefry

/-- Rotation to the left by `r` places, as the programs spell it: `l` is the complement `32 - r`. -/
def rot (r l x : BitVec 32) : BitVec 32 := (x <<< r) ||| (x >>> l)

/-- One round of the cipher on a pair of words. -/
def rnd (r l : BitVec 32) (p : BitVec 32 × BitVec 32) : BitVec 32 × BitVec 32 :=
  (p.1 + p.2, (p.1 + p.2) ^^^ rot r l p.2)

/-- Four rounds at the first rotation schedule. -/
def roundsA (p : BitVec 32 × BitVec 32) : BitVec 32 × BitVec 32 :=
  rnd 6#32 26#32 (rnd 26#32 6#32 (rnd 15#32 17#32 (rnd 13#32 19#32 p)))

/-- Four rounds at the second rotation schedule. -/
def roundsB (p : BitVec 32 × BitVec 32) : BitVec 32 × BitVec 32 :=
  rnd 24#32 8#32 (rnd 16#32 16#32 (rnd 29#32 3#32 (rnd 17#32 15#32 p)))

/-- A key injection: a key word into each half, and the injection's number into the second half. -/
def inject (k₀ k₁ n : BitVec 32) (p : BitVec 32 × BitVec 32) : BitVec 32 × BitVec 32 := (p.1 + k₀, p.2 + k₁ + n)

/-- The third key word, of the key (0, 123). -/
abbrev ks2 : BitVec 32 := 466688929#32

/-- The cipher under the key (0, 123). -/
def block (p : BitVec 32 × BitVec 32) : BitVec 32 × BitVec 32 :=
  inject ks2 0#32 5#32 <| roundsA <| inject 123#32 ks2 4#32 <| roundsB <| inject 0#32 123#32 3#32 <| roundsA <|
    inject ks2 0#32 2#32 <| roundsB <| inject 123#32 ks2 1#32 <| roundsA (p.1 + 0#32, p.2 + 123#32)

/-- The 23 bits drawn at counter `c`: the two halves' exclusive or, its upper 23 places. -/
def draw (c : BitVec 32) : BitVec 32 := ((block (0#32, c)).1 ^^^ (block (0#32, c)).2) >>> 9#32

/-- The counter of action `a` in row `r`: the position in the (512, 18) array, row by row. -/
def counter (r a : BitVec 32) : BitVec 32 := r * 18#32 + a

/-- One step of the running choice: action `a`'s draw replaces the best so far when it is strictly greater, as an unsigned word. -/
def pick (r : BitVec 32) (s : BitVec 32 × BitVec 32) (a : BitVec 32) : BitVec 32 × BitVec 32 :=
  if s.1 < draw (counter r a) then (draw (counter r a), a) else s

/-- The best draw and its action after the first `n` actions of row `r`. -/
def best (r : BitVec 32) : ℕ → BitVec 32 × BitVec 32
  | 0 => (0#32, 0#32)
  | n + 1 => pick r (best r n) (BitVec.ofNat 32 n)

/-- The action of a pair (largest draw, its action). -/
def chosen (p : BitVec 32 × BitVec 32) : BitVec 32 := p.2

/-- The action sampled in row `r`. -/
def action (r : BitVec 32) : BitVec 32 := chosen (best r 18)

theorem action_eq (r : BitVec 32) : action r = (best r 18).2 := by rw [action, chosen]

theorem draw_lt (c : BitVec 32) : (draw c).toNat < 2 ^ 23 := by
  unfold draw
  generalize (block (0#32, c)).1 ^^^ (block (0#32, c)).2 = x
  rw [BitVec.ushiftRight_eq', BitVec.toNat_ushiftRight, Nat.shiftRight_eq_div_pow]
  have := x.isLt
  simp
  omega

end Cert.Proof.Threefry
-- ==== Proof.KernelBits.lean ====
/-
  What one trip of the kernel's inner loop computes, lane by lane: the sixteen lanes of a vector draw for sixteen rows at once, and
  each lane's running pair is one step of the sampler's running choice (`Threefry.pick`).
-/
module

public import proofs.«01_k».proof.Proof.Threefry
public import proofs.«01_k».proof.Proof.Gen.KernelIdeal.Skeleton

@[expose] public section

namespace Cert.Proof.KernelBits

open Cert.KernelIdeal Cert.KernelIdeal.Gen Idealize.ShloMosaic Threefry

/-! ## The vector operations at one lane -/

theorem shl_at (x : IVec S16 32) (r : BitVec 32) (h : r.toNat < 32) (j : S16.Idx) :
    shli x (broadcast S16 r) j = x j <<< r := by
  show IntOp.shli .vector (x j) r = _
  unfold IntOp.shli; rw [if_pos h]

theorem shr_at (x : IVec S16 32) (r : BitVec 32) (h : r.toNat < 32) (j : S16.Idx) :
    shrui x (broadcast S16 r) j = x j >>> r := by
  show IntOp.shrui .vector (x j) r = _
  unfold IntOp.shrui; rw [if_pos h]

theorem add_at (x y : IVec S16 32) (j : S16.Idx) : addi x y j = x j + y j := rfl
theorem mul_at (x y : IVec S16 32) (j : S16.Idx) : muli x y j = x j * y j := rfl
theorem xor_at (x y : IVec S16 32) (j : S16.Idx) : xori x y j = x j ^^^ y j := rfl
theorem or_at (x y : IVec S16 32) (j : S16.Idx) : ori x y j = x j ||| y j := rfl
theorem bc_at (r : BitVec 32) (j : S16.Idx) : (broadcast S16 r : IVec S16 32) j = r := rfl

/-- Rotation of a vector, at one lane. -/
theorem rot_at (x : IVec S16 32) (r l : BitVec 32) (hr : r.toNat < 32) (hl : l.toNat < 32) (j : S16.Idx) :
    ori (shli x (broadcast S16 r)) (shrui x (broadcast S16 l)) j = rot r l (x j) := by
  rw [or_at, shl_at x r hr, shr_at x l hl]; rfl

/-! ## The four stretches of the cipher -/

section Stretches
variable (j : S16.Idx)

/-- The first stretch: the counter, the first four rounds, the first key injection, and the first addition of the next round. -/
theorem first (v27 : IVec S16 32) (k : Fin k0_t2_loop.trips) (c : BitVec 32)
    (hc : k0_pay3 v27 0#32 1#32 k j = c + 123#32) :
    k0_pay11 k0_pay1 v27 0#32 1#32 k j = (inject 123#32 ks2 1#32 (roundsA (0#32 + 0#32, c + 123#32))).2
    ∧ k0_pay12 k0_pay1 v27 0#32 1#32 k j
        = (inject 123#32 ks2 1#32 (roundsA (0#32 + 0#32, c + 123#32))).1 + (inject 123#32 ks2 1#32 (roundsA (0#32 + 0#32, c + 123#32))).2 := by
  constructor <;>
  · simp (disch := decide) only [k0_pay12, k0_pay11, k0_pay10, k0_pay9, k0_pay8, k0_pay7, k0_pay6, k0_pay5, k0_pay4, k0_pay1,
      rot_at, add_at, xor_at, bc_at, hc, inject, roundsA, rnd]

/-- The second stretch: the rest of the four rounds at the second schedule, the second injection, and two rounds more. -/
theorem second (v107 v108 : IVec S16 32) (p : BitVec 32 × BitVec 32) (h1 : v107 j = p.2) (h0 : v108 j = p.1 + p.2) :
    k0_pay23 v107 v108 k0_pay13 j = (rnd 15#32 17#32 (rnd 13#32 19#32 (inject ks2 0#32 2#32 (roundsB p)))).1
    ∧ k0_pay24 v107 v108 k0_pay13 j = (rnd 15#32 17#32 (rnd 13#32 19#32 (inject ks2 0#32 2#32 (roundsB p)))).2 := by
  constructor <;>
  · simp (disch := decide) only [k0_pay24, k0_pay23, k0_pay22, k0_pay21, k0_pay20, k0_pay19, k0_pay18, k0_pay17, k0_pay16, k0_pay15,
      k0_pay14, k0_pay13, rot_at, add_at, xor_at, bc_at, h0, h1, inject, roundsB, rnd]

/-- The third stretch: two rounds, the third injection, and three rounds at the second schedule; the sum and the shifted word of
    the fourth. -/
theorem third (v149 v155 : IVec S16 32) (p : BitVec 32 × BitVec 32) (h0 : v149 j = p.1) (h1 : v155 j = p.2) (q : BitVec 32 × BitVec 32)
    (hq : q = rnd 16#32 16#32 (rnd 29#32 3#32 (rnd 17#32 15#32 (inject 0#32 123#32 3#32 (rnd 6#32 26#32 (rnd 26#32 6#32 p)))))) :
    k0_pay34 v149 v155 j = q.2 ∧ k0_pay35 v149 v155 j = q.1 + q.2 ∧ k0_pay36 v149 v155 j = q.2 <<< 24#32 := by
  subst hq
  refine ⟨?_, ?_, ?_⟩ <;>
  · simp (disch := decide) only [k0_pay36, k0_pay35, k0_pay34, k0_pay33, k0_pay32, k0_pay31, k0_pay30, k0_pay29, k0_pay28, k0_pay27, k0_pay26,
      k0_pay25, rot_at, shl_at, add_at, xor_at, bc_at, h0, h1, inject, rnd]

/-- The fourth stretch: the round's end, the fourth injection, the last four rounds, the last injection, and the exclusive or. -/
theorem fourth (v196 v197 v199 : IVec S16 32) (q : BitVec 32 × BitVec 32) (h1 : v196 j = q.2) (h0 : v197 j = q.1 + q.2)
    (h2 : v199 j = q.2 <<< 24#32) :
    k0_pay38 v196 v197 v199 k0_pay37 j
      = (inject ks2 0#32 5#32 (roundsA (inject 123#32 ks2 4#32 (rnd 24#32 8#32 q)))).1
        ^^^ (inject ks2 0#32 5#32 (roundsA (inject 123#32 ks2 4#32 (rnd 24#32 8#32 q)))).2 := by
  have hr : ori v199 (shrui v196 (broadcast S16 8#32)) j = rot 24#32 8#32 q.2 := by
    rw [or_at, shr_at _ _ (by decide), h1, h2]; rfl
  simp (disch := decide) only [k0_pay38, k0_pay37, hr, rot_at, add_at, xor_at, bc_at, h0, inject, roundsA, rnd]

end Stretches

/-- One trip's draw at a lane. -/
theorem draw_at (v27 : IVec S16 32) (k : Fin k0_t2_loop.trips) (j : S16.Idx) (c : BitVec 32) (hc : k0_pay3 v27 0#32 1#32 k j = c + 123#32)
    (v107 v108 v149 v155 v244 : IVec S16 32)
    (h107 : v107 = k0_pay11 k0_pay1 v27 0#32 1#32 k) (h108 : v108 = k0_pay12 k0_pay1 v27 0#32 1#32 k)
    (h149 : v149 = k0_pay23 v107 v108 k0_pay13) (h155 : v155 = k0_pay24 v107 v108 k0_pay13)
    (h244 : v244 = k0_pay38 (k0_pay34 v149 v155) (k0_pay35 v149 v155) (k0_pay36 v149 v155) k0_pay37) :
    k0_pay43 v244 k0_pay39 j = draw c := by
  have e1 := first j v27 k c hc
  rw [← h107, ← h108] at e1
  have e2 := second j v107 v108 _ e1.1 e1.2
  rw [← h149, ← h155] at e2
  have e3 := third j v149 v155 _ e2.1 e2.2 _ rfl
  have e4 := fourth j _ _ _ _ e3.1 e3.2.1 e3.2.2
  rw [← h244] at e4
  simp (disch := decide) only [k0_pay43, k0_pay39, shr_at, e4]
  rfl

/-! ## One trip of the inner loop -/

/-- The draws of trip `k`, all lanes. -/
noncomputable def draws (v27 : IVec S16 32) (k : Fin k0_t2_loop.trips) : IVec S16 32 :=
  let v107 := k0_pay11 k0_pay1 v27 0#32 1#32 k
  let v108 := k0_pay12 k0_pay1 v27 0#32 1#32 k
  let v149 := k0_pay23 v107 v108 k0_pay13
  let v155 := k0_pay24 v107 v108 k0_pay13
  k0_pay38 (k0_pay34 v149 v155) (k0_pay35 v149 v155) (k0_pay36 v149 v155) k0_pay37

/-- The running pair after trip `k`, all lanes. -/
noncomputable def stepV (v27 : IVec S16 32) (k : Fin k0_t2_loop.trips) (s : IVec S16 32 × IVec S16 32) : IVec S16 32 × IVec S16 32 :=
  (k0_pay45 s.1 (draws v27 k) k0_pay39, k0_pay46 s.1 s.2 (Scf.iv 0#32 1#32 k) (draws v27 k) k0_pay39)

theorem iv_eq (n : ℕ) : Scf.iv 0#32 1#32 n = BitVec.ofNat 32 n := by
  unfold Scf.iv
  simp

/-- A trip is one step of the running choice at each lane. -/
theorem stepV_at (v27 : IVec S16 32) (k : Fin k0_t2_loop.trips) (s : IVec S16 32 × IVec S16 32) (j : S16.Idx) :
    ((stepV v27 k s).1 j, (stepV v27 k s).2 j) = pick (v27 j) (s.1 j, s.2 j) (BitVec.ofNat 32 k) := by
  have hd : k0_pay43 (draws v27 k) k0_pay39 j = draw (counter (v27 j) (BitVec.ofNat 32 k)) :=
    draw_at v27 k j _ (by simp only [k0_pay3, add_at, mul_at, bc_at, iv_eq, counter]) _ _ _ _ _ rfl rfl rfl rfl rfl
  simp only [stepV, k0_pay45, k0_pay46, k0_pay44, pick]
  show (Scalar.select (IntOp.cmpi .ugt (k0_pay43 _ _ j) (s.1 j)) (k0_pay43 _ _ j) (s.1 j),
    Scalar.select (IntOp.cmpi .ugt (k0_pay43 _ _ j) (s.1 j)) (Scf.iv 0#32 1#32 k) (s.2 j)) = _
  rw [hd, iv_eq]
  by_cases h : s.1 j < draw (counter (v27 j) (BitVec.ofNat 32 k))
  · have hb : (s.1 j).ult (draw (counter (v27 j) (BitVec.ofNat 32 k))) = true := BitVec.ult_iff_lt.mpr h
    rw [if_pos h]
    simp only [IntOp.cmpi, hb, Scalar.select, BitVec.ofBool_true, if_true]
  · have hb : (s.1 j).ult (draw (counter (v27 j) (BitVec.ofNat 32 k))) = false := by
      rw [← Bool.not_eq_true, BitVec.ult_iff_lt]; exact h
    rw [if_neg h]
    simp only [IntOp.cmpi, hb, Scalar.select, BitVec.ofBool_false]
    rfl

/-- The running pairs before trip `n`, all lanes: the rows' best draws and their actions. -/
def bestV (v27 : IVec S16 32) (n : ℕ) : IVec S16 32 × IVec S16 32 := (fun j => (best (v27 j) n).1, fun j => (best (v27 j) n).2)

theorem bestV_fst (v27 : IVec S16 32) (n : ℕ) (j : S16.Idx) : (bestV v27 n).1 j = (best (v27 j) n).1 := by rw [bestV]
theorem bestV_snd (v27 : IVec S16 32) (n : ℕ) (j : S16.Idx) : (bestV v27 n).2 j = (best (v27 j) n).2 := by rw [bestV]

theorem bestV_zero (v27 : IVec S16 32) : bestV v27 0 = (k0_pay41, k0_pay42) := by
  simp only [bestV, best, k0_pay41, k0_pay42]; rfl

theorem bestV_succ (v27 : IVec S16 32) (k : Fin k0_t2_loop.trips) : stepV v27 k (bestV v27 k) = bestV v27 (k + 1) := by
  have h : ∀ j, ((stepV v27 k (bestV v27 k)).1 j, (stepV v27 k (bestV v27 k)).2 j) = best (v27 j) (k + 1) := fun j => by
    rw [stepV_at, bestV_fst, bestV_snd, best, Prod.mk.eta]
  generalize stepV v27 k (bestV v27 k) = s at h ⊢
  refine Prod.ext (funext fun j => ?_) (funext fun j => ?_)
  · rw [bestV_fst, ← h j]
  · rw [bestV_snd, ← h j]

variable {F : FTy → Type} [FloatOps F]

/-- The inner loop's body reads and writes no buffer: it returns the next running pairs. -/
theorem inner_body (i : grid0.Coords) (arg2 : Memref sig .scVector .hbm S16x32 .i32) (harg2 : arg2.IsWhole)
    (arg3 : Memref sig .scVector .vmem S1x32 .i32) (harg3 : arg3.IsWhole) (r0 : DmaSems sig S_) (v2 : BitVec 32) (v3 : IVec S16 32)
    (t : Fin k0_t1_loop.trips) (k : Fin k0_t2_loop.trips) (s : IVec S16 32 × IVec S16 32) :
    k0_t2_body (F := F) i arg2 harg2 arg3 harg3 r0 v2 v3 k0_pay1 0#32 1#32 t k s = pure (stepV (k0_pay40 v2 v3 0#32 1#32 t) k s) := by
  unfold k0_t2_body
  rw [k0_part1_eq_skeleton, k0_part2_eq_skeleton, k0_part3_eq_skeleton, k0_part4_eq_skeleton]
  rfl

end Cert.Proof.KernelBits
-- ==== Proof.Tile.lean ====
/-
  The SparseCore call. Each of the sixteen vector subcores samples the actions of its own thirty-two rows into a scratch buffer, sixteen
  lanes at a time, and copies them out to its row of the (16, 32) result. This file runs the task once, at a symbolic subcore, and says
  what the row holds afterwards.
-/
module

public import proofs.«01_k».proof.Defs
public import proofs.«01_k».proof.Proof.KernelBits
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WritesUnit
public import Idealize.ShloMosaic.Lib.Pointwise.Reshape

@[expose] public section

noncomputable section

namespace Cert.Proof.Sampler

open Cert.KernelIdeal Cert.KernelIdeal.Gen
open Cert.Proof.KernelBits Cert.Proof.Threefry

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the copies' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ) (ρ : Dev nD → PrngReg)

/-- The actions' array, as a location of device `d`. -/
abbrev oLoc (d : Dev nD) : Loc nD τ sig := (SparseCore.T d).loc main_v0

local notation "oV" => (Memref.whole Cert.KernelIdeal.main_v0_scv : Memref Cert.KernelIdeal.sig Kind.scVector Space.hbm Cert.KernelIdeal.S16x32 EltTy.i32)
local notation "sV" => (Memref.whole Cert.KernelIdeal.cc0_scratch0 : Memref Cert.KernelIdeal.sig Kind.scVector Space.vmem Cert.KernelIdeal.S1x32 EltTy.i32)

theorem hdiv : 16 ∣ S16x32.size 0 := ⟨1, rfl⟩
/-- Row `i` of the (16, 32) array: one subcore's. -/
abbrev row (i : Fin 16) : Rect S16x32 := Rect.part (s := S16x32) (a₀ := 0) hdiv i
abbrev rowSet (i : Fin 16) : Finset S16x32.Idx := ((oV).view.slice (row i)).set

/-- The actions the whole array holds in the end: entry `(i, j)` is the action sampled in row `32 i + j`. -/
def actions (d : Dev nD) : Buf (Elt F) (oLoc d) := fun (j : S16x32.Idx) => action (BitVec.ofNat 32 (32 * (j 0).val + (j 1).val))

variable [FloatOps F]

/-! ## What the handshakes carry -/

abbrev oPts (d : Dev nD) (f : Buf (Elt F) (oLoc d)) : sProp 𝕄 := oLoc d ↦{fullShare} f
abbrev oRowPts (d : Dev nD) (i : Fin 16) (f : Buf (Elt F) (oLoc d)) : sProp 𝕄 := oLoc d ↦[rowSet i]{fullShare} f

/-- The call takes the array whole, hands each task its row, and brings the rows back holding the actions. -/
def P : (K (F := F)).Pay (nD := nD) (Val := Elt F) (Name := ℕ) (U := UU) where
  st := fun q d _ => match q with | 0 => oPts d (m (oLoc d))
  dn := fun q d _ => match q with | 0 => oPts d (actions d)
  go := fun q d _ i => match q with | 0 => oRowPts d (Fin.cast nSub_zero i) (m (oLoc d))
  td := fun q d _ i => match q with | 0 => oRowPts d (Fin.cast nSub_zero i) (actions d)
  x := fun _ _ => iprop(emp)

instance P_storable : (P (F := F) m).IsStorable where
  st q d _ := match q with | 0 => (inferInstance : BI.Storable (upEmb : UEmb _ 𝕄) (oPts d (m (oLoc d))))
  dn q d _ := match q with | 0 => (inferInstance : BI.Storable (upEmb : UEmb _ 𝕄) (oPts d (actions d)))
  go q d _ i := match q with
    | 0 => (inferInstance : BI.Storable (upEmb : UEmb _ 𝕄) (oRowPts d (Fin.cast nSub_zero i) (m (oLoc d))))
  td q d _ i := match q with
    | 0 => (inferInstance : BI.Storable (upEmb : UEmb _ 𝕄) (oRowPts d (Fin.cast nSub_zero i) (actions d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The row the task writes, as the body spells it. -/
abbrev rowK (L : grid0.Coords) : Rect S16x32 := Rect.unit (s := S16x32) (k0_off2 L) S1x32.size (k0_off2_inb L)
abbrev oRowK (L : grid0.Coords) : Memref sig .scVector .hbm S1x32 .i32 := (oV).slice (rowK L) (fun _ => rfl)

omit [FloatOps F] in
theorem off2_eq : ∀ L : grid0.Coords, k0_off2 L = ![(L 1).val, 0] := by decide +kernel

omit [FloatOps F] in
theorem off1_eq : ∀ t : Fin k0_t1_loop.trips, k0_off1 t = ![0, 16 * t.val] := by decide +kernel

omit [FloatOps F] in
theorem rowK_eq : rowK L = row (jL L) := by
  unfold rowK row Rect.part Rect.block
  congr 1 <;> funext a
  · rw [off2_eq]
    match a with
    | 0 => simp [Shape.partIx, Shape.partSize]
    | 1 => simp [Shape.partIx, Shape.partSize]
  · match a with
    | 0 => simp [Shape.partSize]
    | 1 => simp [Shape.partSize]

omit [FloatOps F] in
theorem set_oRowK : (oRowK L).view.set = rowSet (jL L) := by
  show ((oV).view.slice (rowK L)).set = ((oV).view.slice (row (jL L))).set
  exact rowK_eq L ▸ rfl

omit [FloatOps F] in
theorem pts_oRowK (f : Buf (Elt F) (oLoc d)) :
    ((oRowK L).view.loc (V d (cV L) (jV L)) ↦[(oRowK L).view.set]{fullShare} f : sProp 𝕄) = oLoc d ↦[rowSet (jL L)]{fullShare} f := by
  rw [set_oRowK]

omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl

/-- The semaphore the copy completes on. -/
abbrev cAcell (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cAcell d (cV L) (jV L)) 0 ∗ bigSep ((ownCells (V d (cV L) (jV L))).erase (cAcell d (cV L) (jV L))) fun g => semVal g 0) := by
  unfold SparseCore.Cfg.ownSems0
  exact SparseCore.bigSep_erase' ((mem_ownCells (g := cAcell d (cV L) (jV L))).mpr ⟨rfl, by
      show (SemLoc.dma cc0_scoped0.sem : SemLoc sig).isScoped .scVector = true; decide⟩)

omit [FloatOps F] in
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The subcore's first row number, as the body computes it. -/
abbrev base (L : grid0.Coords) : BitVec 32 :=
  Scalar.muli (Scalar.addi (Scalar.muli (BitVec.ofNat 32 (L 1).val) 1#32) (BitVec.ofNat 32 (L 0).val)) 32#32
abbrev lanes : IVec S16 32 := iota .scVector S16 32 [0] iota_S16_d0_w32_scVector
/-- The sixteen row numbers of chunk `t`. -/
abbrev rows (L : grid0.Coords) (t : Fin k0_t1_loop.trips) : IVec S16 32 := k0_pay40 (base L) lanes 0#32 1#32 t

/-- The scratch before chunk `t`: the chunks before it hold their rows' actions. -/
def scratchInv (t : ℕ) (_ : BitVec 32) : sProp 𝕄 :=
  iprop(∃ f : Buf (Elt F) ((V d (cV L) (jV L)).loc cc0_scratch0),
    ⌜∀ j : S1x32.Idx, (j 1).val < 16 * t → f j = action (BitVec.ofNat 32 (32 * (L 1).val + (j 1).val))⌝
      ∗ (sV).view.loc (V d (cV L) (jV L)) ↦{fullShare} f)

/-! ### What the task stores -/

omit [FloatOps F] in
/-- The lanes of chunk `t` are sixteen consecutive row numbers. -/
theorem rows_at (t : Fin k0_t1_loop.trips) (j : S16.Idx) : rows L t j = BitVec.ofNat 32 (32 * (L 1).val + (16 * t.val + (j 0).val)) := by
  have h0 : (L 0).val = 0 := Nat.lt_one_iff.mp (show (L 0).val < 1 from (L 0).isLt)
  have h1 : (L 1).val < 16 := (L 1).isLt
  have ht : t.val < 2 := t.isLt
  have hj : (j 0).val < 16 := (j 0).isLt
  unfold rows k0_pay40
  show BitVec.ofNat 32 (0 * 16 + (j 0).val)
    + ((BitVec.ofNat 32 (L 1).val * 1#32 + BitVec.ofNat 32 (L 0).val) * 32#32 + (0#32 + BitVec.ofNat 32 t.val * 1#32) * 16#32) = _
  rw [h0]
  apply BitVec.eq_of_toNat_eq
  simp only [BitVec.toNat_add, BitVec.toNat_mul, BitVec.toNat_ofNat]
  omega

omit [FloatOps F] in
theorem best_last (t : Fin k0_t1_loop.trips) (j : S16.Idx) :
    (bestV (rows L t) (Scf.trips k0_t2_loop.lb k0_t2_loop.ub k0_t2_loop.st)).2 j = action (rows L t j) := by
  rw [show Scf.trips k0_t2_loop.lb k0_t2_loop.ub k0_t2_loop.st = 18 from by decide, bestV_snd, action_eq]

omit [FloatOps F] in
theorem pay2_at (w : IVec S16 32) (x : S1x16.Idx) (j : S16.Idx) (h : (j 0).val = (x 1).val) : k0_pay2 w x = w j := by
  unfold k0_pay2 shapeCast
  refine congrArg w ?_
  refine Shape.reshapeEquiv_eq_of_rowMajor _ ?_
  have h0 : (x 0).val < 1 := (x 0).isLt
  rw [rowMajor_val1, rowMajor_val2 x 16 rfl]
  omega

omit [FloatOps F] in
/-- Storing chunk `t`'s sixteen actions extends the invariant by one chunk. -/
theorem store_chunk (t : Fin k0_t1_loop.trips) (f : Buf (Elt F) ((V d (cV L) (jV L)).loc cc0_scratch0))
    (hf : ∀ j : S1x32.Idx, (j 1).val < 16 * t.val → f j = action (BitVec.ofNat 32 (32 * (L 1).val + (j 1).val)))
    (w : IVec S16 32) (hw : ∀ j, w j = action (rows L t j)) (j : S1x32.Idx) (hj : (j 1).val < 16 * (t.val + 1)) :
    (sV).view.writes (Elt F) f [⟨Rect.unit (s := S1x32) (k0_off1 t) S1x16.size (k0_off1_inb t), k0_pay2 w⟩] j
      = action (BitVec.ofNat 32 (32 * (L 1).val + (j 1).val)) := by
  have h0 : (j 0).val < 1 := (j 0).isLt
  show (sV).view.read (Elt F) ((sV).view.writes (Elt F) f [⟨Rect.unit (s := S1x32) (k0_off1 t) S1x16.size (k0_off1_inb t), k0_pay2 w⟩]) j = _
  by_cases hlt : (j 1).val < 16 * t.val
  · exact (View.read_writes_cons_unit_of_not_mem (sV).view f (k0_off1_inb t) (k0_pay2 w) [] j (off1_eq t) 1 (Or.inl hlt)).trans (hf j hlt)
  · have hx : (j 1).val - 16 * t.val < 16 := by omega
    refine (View.read_writes_cons_unit_of_mem (sV).view f (k0_off1_inb t) (k0_pay2 w) [] j
        (fun | 0 => ⟨0, Nat.one_pos⟩ | 1 => ⟨(j 1).val - 16 * t.val, hx⟩ : S1x16.Idx) (off1_eq t)
        (fun a => by match a with
          | 0 => show (j 0).val = 0 + 0; omega
          | 1 => show (j 1).val = 16 * t.val + ((j 1).val - 16 * t.val); omega)).trans ?_
    rw [pay2_at w _ (fun | 0 => ⟨(j 1).val - 16 * t.val, hx⟩ : S16.Idx) rfl, hw, rows_at]
    refine congrArg (fun n => action (BitVec.ofNat 32 (32 * (L 1).val + n))) ?_
    show 16 * t.val + ((j 1).val - 16 * t.val) = (j 1).val
    omega

omit [FloatOps F] in
/-- The copy leaves the row at the actions. -/
theorem row_copied (f : Buf (Elt F) ((V d (cV L) (jV L)).loc cc0_scratch0))
    (hf : ∀ j : S1x32.Idx, (j 1).val < 16 * 2 → f j = action (BitVec.ofNat 32 (32 * (L 1).val + (j 1).val)))
    (g : Buf (Elt F) (oLoc d)) (w : S1x32.Idx → Elt F .i32) (hw : w = f) :
    ∀ i ∈ rowSet (jL L), (oRowK L).view.writes (Elt F) g [⟨Rect.whole S1x32, w⟩] i = actions (F := F) d i := by
  intro i hi
  rw [← set_oRowK] at hi
  obtain ⟨x, -, rfl⟩ := Finset.mem_map.mp hi
  have := View.read_writes_cons_hit (oRowK L).view g (Rect.whole S1x32) w [] x x
    (funext fun a => Fin.ext (by show 0 + 1 * (x a).val = (x a).val; omega))
  refine this.trans ?_
  rw [hw, hf x (x 1).isLt]
  unfold actions
  have h0 : (x 0).val < 1 := (x 0).isLt
  have e0 : ((oRowK L).view.emb x 0).val = k0_off2 L 0 + 1 * (x 0).val := rfl
  have e1 : ((oRowK L).view.emb x 1).val = k0_off2 L 1 + 1 * (x 1).val := rfl
  rw [off2_eq] at e0 e1
  refine congrArg (fun n => action (BitVec.ofNat 32 n)) ?_
  have e0' : ((oRowK L).view.emb x 0).val = (L 1).val + 1 * (x 0).val := e0
  have e1' : ((oRowK L).view.emb x 1).val = 0 + 1 * (x 1).val := e1
  omega

/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ oRowPts d (jL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_sampler L oV (Memref.isWhole_whole _) sV (Memref.isWhole_whole _) cc0_scoped0)
          fun _ => iprop(oRowPts d (jL L) (actions d)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  simp only [cc0__sc_sampler_eq_skeleton]; unfold cc0__sc_sampler_skel
  iintro ⟨#Hlv, -, Ho, ⟨⟨%fs, Hs⟩, Hbufs⟩, ⟨HsemA, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hs' := (Entails.of_eq (pts_sV (F := F) d L _).symm) $$ Hs
  sl_exec
  sl_for (scratchInv (F := F) d L) $$ [Hs']
  case region =>
    intro t acc
    unfold tile_body.sl.prog.body_1 k0_t1_body
    rw [k0_part5_eq_skeleton]; unfold k0_part5_skel
    simp only [bind_assoc]
    unfold scratchInv
    iintro ⟨%f, %hf, Hs⟩
    sl_for (fun n s => iprop(⌜s = bestV (rows L t) n⌝)) $$ []
    case region =>
      intro k s
      iintro %hs
      rw [show tile_body.sl.prog.body_2 L t k s = pure (stepV (rows L t) k s) from inner_body L oV _ sV _ cc0_scoped0 (base L) lanes t k s]
      sl_step
      ipureintro
      rw [hs, bestV_succ]
    · ipureintro
      exact (bestV_zero _).symm
    iintro %acc' %hacc
    obtain ⟨w₀, w⟩ := acc'
    have hw : ∀ j, w j = action (rows L t j) := fun j => (congrFun (congrArg Prod.snd hacc) j).trans (best_last L t j)
    clear hacc
    unfold tile_body.sl.prog.cont_2
    sl_exec
    sl_step
    iexists _; isplitr
    swap; · iexact Hs
    ipureintro
    exact store_chunk d L t f hf w hw
  · unfold scratchInv
    iexists _; isplitr
    swap; · iexact Hs'
    ipureintro; intro j hj; omega
  iintro %acc Hs
  unfold scratchInv
  icases Hs with ⟨%f, %hf, Hs'⟩
  sl_exec (disch := exact View.amount_pos _ _ (show 0 < S1x32.numel by decide))
  sl_step
  isplitl [Ho']
  · ihave Ho' := (Entails.of_eq (pts_oRowK (F := F) d L _)) $$ Ho'
    iapply (Entails.of_eq (pointsTo_congr (row_copied d L f hf (m (oLoc d)) _ rfl))) $$ Ho'
  isplitl [Hs' Hbufs]
  · isplitl [Hs']
    · iexists _; iexact Hs'
    · iexact Hbufs
  isplitl [HsemA Hsems]
  · isplitl [HsemA]
    · iexact HsemA
    · iexact Hsems
  iexists _; isplitr
  swap; · iexact HO
  ipureintro
  intro p hp
  rcases Finset.mem_insert.mp hp with rfl | hp
  · exact .inr (.inl rfl)
  · exact .inl hp

/-- A subcore's grid coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The kernel's program on a vector subcore is the sampler there. -/
theorem defs₀_vector (c : Fin τ.nSC) (s : Fin τ.nSub) :
    defs₀ (F := F) (.scVector c s) 0 () = SparseCore.onTile hcore0 hsub0 (fun c s => cc0__sc_sampler (coordsV c s)
      oV (Memref.isWhole_whole _) sV (Memref.isWhole_whole _) cc0_scoped0) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

/-! ## The array is its sixteen rows -/

omit [FloatOps F] in
theorem rowSet_eq (i : Fin 16) : rowSet i = (row i).set := by
  rw [rowSet, View.set_slice]
  exact Finset.map_refl

omit [FloatOps F] in
theorem rows_disjoint : ∀ i ∈ (Finset.univ : Finset (Fin 16)), ∀ j ∈ (Finset.univ : Finset (Fin 16)), i ≠ j → Disjoint (rowSet i) (rowSet j) := by
  intro i _ j _ hij
  rw [rowSet_eq, rowSet_eq]
  exact Rect.part_disjoint hdiv hij

omit [FloatOps F] in
theorem rows_cover : (Finset.univ : Finset (Fin 16)).biUnion rowSet = Finset.univ :=
  (Finset.biUnion_congr rfl fun i _ => rowSet_eq i).trans (Rect.biUnion_part hdiv)

omit [FloatOps F] in
theorem oPts_rows (d : Dev nD) (f : Buf (Elt F) (oLoc d)) :
    (oPts d f : sProp 𝕄) = bigSep Finset.univ fun i : Fin 16 => oRowPts d i f := by
  rw [← pointsTo_biUnion Finset.univ (ℓ := oLoc d) rowSet rows_disjoint, rows_cover]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's array splits into the tasks' rows, and the rows they bring back make the array again. -/
theorem vecSplit : (K (F := F)).VecSplit' (P m) 0 := by
  intro d c
  show oPts d (m (oLoc d)) ⊢ |={Set.univ}=> iprop(
      (bigSep Finset.univ fun i : Fin ((K (F := F)).nSub 0) => oRowPts d (Fin.cast nSub_zero i) (m (oLoc d)))
      ∗ ((bigSep Finset.univ fun i : Fin ((K (F := F)).nSub 0) => oRowPts d (Fin.cast nSub_zero i) (actions d))
          -∗ oPts d (actions d)))
  rw [bigSep_tasks (F := F) (fun i => oRowPts d i (m (oLoc d))), bigSep_tasks (F := F) (fun i => oRowPts d i (actions d)),
    ← oPts_rows, ← oPts_rows]
  iintro H; imodintro
  isplitl [H]; · iexact H
  iintro H; iexact H

end Cert.Proof.Sampler
-- ==== Proof.Dense.lean ====
/-
  The TensorCore call that follows the sampler: from the (18,) bias it computes the logits and the baseline. Its body run once, its
  proof data, and the call as a region of the main program, entered with the three arrays and left with the two results written.
-/
module

public import proofs.«01_k».proof.Proof.Tile
public import proofs.«01_k».proof.Proof.Gen.KernelIdeal.Points
public import Idealize.ShloMosaic.Lib.VecWindow
public import Idealize.ShloMosaic.Lib.Pipeline.Value

@[expose] public section

noncomputable section

namespace Cert.Proof.Dense

open Cert.KernelIdeal Cert.KernelIdeal.Gen
open Cert.Proof.Sampler (UU K ΛP D 𝒱₀)

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body -/

/-- A memref's buffer on core `c`, held whole at `f`. -/
abbrev pt (c : Dev nD) {S : Shape} {e : EltTy} (M : Memref sig .tc .vmem S e) (f : Buf (Elt F) (M.view.loc (c : Thread nD τ))) : sProp 𝕄 :=
  M.view.loc (c : Thread nD τ) ↦{fullShare} f

/-- The body stores the logits and the baseline of the bias it reads. -/
theorem dense_run (c : Dev nD) (M0 : Memref sig .tc .vmem S18 .f32) (h0 : M0.IsWhole) (M1 : Memref sig .tc .vmem S16x32x18 .f32) (h1 : M1.IsWhole)
    (M2 : Memref sig .tc .vmem S16x32 .f32) (h2 : M2.IsWhole) (f0 : Buf (Elt F) (M0.view.loc (c : Thread nD τ)))
    (f1 : Buf (Elt F) (M1.view.loc (c : Thread nD τ))) (f2 : Buf (Elt F) (M2.view.loc (c : Thread nD τ))) (E : Set ℕ) (Q : PUnit → sProp 𝕄) :
    iprop(pt c M0 f0 ∗ pt c M1 f1 ∗ pt c M2 f2
        ∗ (∀ g1 g2, ⌜M1.view.read (Elt F) g1 = k1_pay2 (M0.view.read (Elt F) f0) ∧ M2.view.read (Elt F) g2 = k1_pay3 (M0.view.read (Elt F) f0)⌝
            -∗ pt c M0 f0 -∗ pt c M1 g1 -∗ pt c M2 g2 -∗ Q ⟨⟩))
      ⊢ wp frame (wpE (defs₀ (F := F)) Variants.none c none) E (cc1__tc_dense M0 h0 M1 h1 M2 h2) Q := by
  rw [cc1__tc_dense_eq_skeleton]; unfold cc1__tc_dense_skel
  iintro ⟨H0, H1, H2, Hk⟩
  sl_exec!
  sl_step
  iapply Hk $$ [] [H0] [H1] [H2]
  rotate_left
  · iexact H0
  · iexact H1
  · iexact H2
  ipureintro
  exact ⟨(View.read_writes_full _ _ _ _ []).trans (congrArg k1_pay2 (View.readAt_full _ _ _)),
    (View.read_writes_full _ _ _ _ []).trans (congrArg k1_pay3 (View.readAt_full _ _ _))⟩

/-! ## The proof data of one entry -/

variable (V : (c : Dev nD) → (b : Ref sig .tc) → Buf (Elt F) ((c : Thread nD τ).loc b))

/-- The bias as the fetch stages it. -/
abbrev stg (c : Dev nD) : (cfg1.win 0).block.Idx → Elt F (cfg1.win 0).elt :=
  ((cfg1.win 0).blk t1_0).view.read (Elt F) (V c main_arg1)

/-- The waits a thread may have recorded before the call's own: those of the sampler's one call. -/
def past (c : Dev nD) : Set (SemLoc sig × HIx 1) := {p | (K (F := F)).lev ((c : Thread nD τ), p.1) p.2 ≤ 8}

/-- The call's proof data: the arrays at the entry contents; after the body the bias still staged and the two results computed from it. -/
def dat (c : Dev nD) : Dat τ (Elt F) (HIx 1) ℕ UU ℕ cfg1 c where
  A w := V c (Pipeline.arrRef spec1 w)
  after w _ := match w with
    | ⟨0, _⟩ => stg V c
    | ⟨1, _⟩ => k1_pay2 (stg V c)
    | ⟨2, _⟩ => k1_pay3 (stg V c)
  Φ _ := Pipeline.scopedRest (Ix := HIx 1) (Name := ℕ) (U := UU) (Lvl := ℕ) (Val := Elt F) spec1 c
  q _ := fullShare
  owed _ := 0
  recorded _ := past (F := F) c

/-- The body reads the staged bias. -/
theorem before_bias (c : Dev nD) (d : (cfg1.win 0).block.Idx → Elt F (cfg1.win 0).elt) : (dat V c).before 0 t1_0 d = stg V c := by
  unfold Dat.before; rw [if_pos (by decide)]; rfl

/-- The body's obligation, from its run. -/
theorem body_holds (c : Dev nD) : BodyObligation (dat V c) (defs₀ (F := F)) 𝒱₀ (none : HIx 1) Set.univ := fun t => by
  obtain rfl := fin_N1 t
  rw [bigSep_W1, bigSep_W1]
  simp only [owns_whole_eq]
  rw [show (dat V c).Φ t1_0.succ = (dat V c).Φ t1_0.castSucc from rfl,
    show (dat V c).owesAt (none : HIx 1) t1_0.succ = (dat V c).owesAt (none : HIx 1) t1_0.castSucc from rfl]
  iintro ⟨HΦ, Howes, ⟨%d0, %f0, %hf0, H0⟩, ⟨%d1, %f1, -, H1⟩, ⟨%d2, %f2, -, H2⟩⟩
  rw [before_bias] at hf0
  iapply (dense_run c (stage1_0 0) (hstage1_0 0) (stage1_1 0) (hstage1_1 0) (stage1_2 0) (hstage1_2 0) f0 f1 f2 Set.univ _)
  isplitl [H0]; · iexact H0
  isplitl [H1]; · iexact H1
  isplitl [H2]; · iexact H2
  iintro %g1 %g2 %hg H0 H1 H2
  have h0 : (stage1_0 0).view.read (Elt F) f0 = stg V c := hf0
  isplitl [HΦ]; · iexact HΦ
  isplitl [Howes]; · iexact Howes
  isplitl [H0]; · iexists f0; isplitr; swap; (· iexact H0); ipureintro; exact h0
  isplitl [H1]; · iexists g1; isplitr; swap; (· iexact H1); ipureintro; exact hg.1.trans (congrArg k1_pay2 h0)
  iexists g2; isplitr; swap; (· iexact H2); ipureintro; exact hg.2.trans (congrArg k1_pay3 h0)

/-! ## What the arrays hold at the end -/

/-- The bias staged is the bias. -/
theorem stg_eq (c : Dev nD) : stg V c = V c main_arg1 :=
  funext fun j => congrArg (V c main_arg1) (funext fun a => Fin.ext (by fin_cases a; exact (Nat.zero_add _).trans (Nat.one_mul _)))

/-- The logits' array at the end. -/
theorem logits_end (c : Dev nD) : (dat V c).arrAt 1 cfg1.N = k1_pay2 (V c main_arg1) :=
  (dat V c).arrAt_eq_of_cover 1 (k1_pay2 (V c main_arg1)) (fun t _ => by
      obtain rfl := fin_N1 t
      rw [← stg_eq V c]
      refine funext fun j => congrArg (k1_pay2 (stg V c)) (funext fun a => Fin.ext ?_)
      fin_cases a
      · show (j 0).val = 0 + 1 * (j 0).val; omega
      · show (j 1).val = 0 + 1 * (j 1).val; omega
      · show (j 2).val = 0 + 1 * (j 2).val; omega)
    fun i => ⟨t1_0, flush1_1 _, Finset.mem_map.mpr ⟨i, Finset.mem_univ _, funext fun a => Fin.ext (by
      fin_cases a
      · show 0 + 1 * (i 0).val = (i 0).val; omega
      · show 0 + 1 * (i 1).val = (i 1).val; omega
      · show 0 + 1 * (i 2).val = (i 2).val; omega)⟩⟩

/-- The baseline's array at the end. -/
theorem baseline_end (c : Dev nD) : (dat V c).arrAt 2 cfg1.N = k1_pay3 (V c main_arg1) :=
  (dat V c).arrAt_eq_of_cover 2 (k1_pay3 (V c main_arg1)) (fun t _ => by
      obtain rfl := fin_N1 t
      rw [← stg_eq V c]
      exact funext fun j => rfl)
    fun i => ⟨t1_0, flush1_2 _, Finset.mem_map.mpr ⟨i, Finset.mem_univ _, funext fun a => Fin.ext (by
      fin_cases a
      · show 0 + 1 * (i 0).val = (i 0).val; omega
      · show 0 + 1 * (i 1).val = (i 1).val; omega)⟩⟩

/-! ## The call as a region -/

/-- The schedule's side conditions, which hold of the program's one pipeline. -/
def adm : (p : Fin 1) → (pcfgs (F := F) p).Adm := fun p => (cfgs p).toPCfg_adm

/-- The proof data of every pipeline: there is one. -/
def pdats : (p : Fin 1) → (c : Dev nD) → Dat τ (Elt F) (HIx 1) ℕ UU ℕ (Pipeline.pin (pcfgs (F := F)) adm p) c
  | ⟨0, _⟩ => fun c => dat V c

/-- The three arrays of the call held at given contents. -/
abbrev held3 (c : Dev nD) (A0 : Buf (Elt F) ((c : Thread nD τ).loc main_arg1)) (A1 : Buf (Elt F) ((c : Thread nD τ).loc main_v1_0))
    (A2 : Buf (Elt F) ((c : Thread nD τ).loc main_v1_1)) : sProp 𝕄 :=
  iprop(((c : Thread nD τ).loc main_arg1 ↦{fullShare} A0) ∗ ((c : Thread nD τ).loc main_v1_0 ↦{fullShare} A1)
    ∗ ((c : Thread nD τ).loc main_v1_1 ↦{fullShare} A2))

/-- The thread's record: it owes nothing, and waited on nothing above the sampler's call. -/
abbrev quiet (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
/-- The call: entered with the bias and the two result arrays, left with the results written. -/
def reg : Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_holds V c).loose
  hwaits := Pipeline.hwaits_of_owed_zero _ _ _ _ (K (F := F)).L (K (F := F)).lev 0 fun _ _ => rfl
  pre c := iprop(held3 c (V c main_arg1) (V c main_v1_0) (V c main_v1_1) ∗ quiet c)
  post c := iprop(held3 c (V c main_arg1) (k1_pay2 (V c main_arg1)) (k1_pay3 (V c main_arg1)) ∗ quiet c)
  X _ := BI.emp
  Y _ := BI.emp
  Z _ := BI.emp
  hentry c := by
    rw [Pipeline.ownSems0_none]
    have harr := Pipeline.arrays_eq (p := 0) (Pipeline.pin (pcfgs (F := F)) adm) (pdats V) c launch1.arr_whole
      ((pdats V 0 c).share_full fun _ => rfl) ((pdats V 0 c).arrAt · 0)
    rw [bigSep_W1] at harr
    iintro ⟨⟨H, HO⟩, -, -⟩
    imodintro
    isplitl [H]; · rw [harr]; iexact H
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none,
      show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have harr := Pipeline.arrays_eq (p := 0) (Pipeline.pin (pcfgs (F := F)) adm) (pdats V) c launch1.arr_whole
      ((pdats V 0 c).share_full fun _ => rfl) ((pdats V 0 c).arrAt · cfg1.N)
    rw [bigSep_W1] at harr
    have h0 : (pdats V 0 c).arrAt 0 cfg1.N = V c main_arg1 := (dat V c).arrAt_in 0 rfl _
    have h1 : (pdats V 0 c).arrAt 1 cfg1.N = k1_pay2 (V c main_arg1) := logits_end V c
    have h2 : (pdats V 0 c).arrAt 2 cfg1.N = k1_pay3 (V c main_arg1) := baseline_end V c
    rw [h0, h1, h2] at harr
    iintro ⟨Ha, HO, -, -⟩
    imodintro
    isplitl [Ha]
    · irevert Ha; rw [harr]; iintro Ha; iexact Ha
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

theorem reg_pre (c : Dev nD) : (reg V).pre c = iprop(held3 c (V c main_arg1) (V c main_v1_0) (V c main_v1_1) ∗ quiet c) := rfl
theorem reg_post (c : Dev nD) :
    (reg V).post c = iprop(held3 c (V c main_arg1) (k1_pay2 (V c main_arg1)) (k1_pay3 (V c main_arg1)) ∗ quiet c) := rfl

end Cert.Proof.Dense
-- ==== Proof.KernelRun.lean ====
/-
  The kernel's run: the launch's ghost state, the main program on the TensorCore (the sampler's call, then the call that computes the
  logits and the baseline), and what every array holds at the end.
-/
module

public import proofs.«01_k».proof.Proof.Dense
public import proofs.«01_k».proof.Proof.Gen.Kernel

@[expose] public section

noncomputable section

namespace Cert.Proof.Sampler

open Cert.KernelIdeal Cert.KernelIdeal.Gen
open Cert.Proof.Dense (adm pdats reg reg_pre reg_post held3 quiet)

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The part of the ghost state that is the TensorCore pipeline's. -/
abbrev EP : Emb UP (MT nD τ sig (HIx 1) (Elt F) ℕ UU ℕ) := (Emb.inl : Emb UP (UP × Counters)).trans embR

instance EP_lands : (EP (F := F)).LandsIn (upEmb : UEmb _ 𝕄) := by unfold EP; infer_instance

/-- The launch's element: the handshakes' rounds, the pipeline's rounds, no counter yet. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What the TensorCore of a device needs of it: its pipeline's cells and duties. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (Pipeline.pin (pcfgs (F := F)) adm) EP cellOf_inj) $$ HP with ⟨Hc, Ht⟩
  imodintro
  isplitl [HH]; · iexact HH
  isplitl [Hc Ht]
  · rw [bigSep_univ_of_subsingleton (Φ := fun d : Dev nD => G (F := F) d) (0 : Dev nD)]
    ihave Hc := (Entails.of_eq ((bigSep_univ_of_subsingleton (0 : Dev nD)).trans (bigSep_univ_of_subsingleton (0 : Fin 1)))) $$ Hc
    ihave Ht := (Entails.of_eq ((bigSep_univ_of_subsingleton (0 : Dev nD)).trans (bigSep_univ_of_subsingleton (0 : Fin 1)))) $$ Ht
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## The main program -/

/-- A device's arrays, each at given contents. -/
abbrev bufs (d : Dev nD) (W : (b : Ref sig .tc) → Buf (Elt F) ((d.tc : Thread nD τ).loc b)) : sProp 𝕄 :=
  iprop(((d.tc : Thread nD τ).loc main_arg0 ↦{fullShare} W main_arg0) ∗ ((d.tc : Thread nD τ).loc main_arg2 ↦{fullShare} W main_arg2)
    ∗ ((d.tc : Thread nD τ).loc main_v0 ↦{fullShare} W main_v0) ∗ held3 d (W main_arg1) (W main_v1_0) (W main_v1_1))

theorem unscopedBufs_eq (d : Dev nD) (W : (b : Ref sig .tc) → Buf (Elt F) ((d.tc : Thread nD τ).loc b)) :
    (unscopedBufs d W : sProp 𝕄) = bufs d W := by
  unfold unscopedBufs
  rw [show (Finset.univ.filter fun b : Ref sig .tc => ¬ b.isScoped) = {main_arg0, main_arg2, main_v0, main_arg1, main_v1_0, main_v1_1} by decide,
    SparseCore.bigSep_insert' (by decide), SparseCore.bigSep_insert' (by decide), SparseCore.bigSep_insert' (by decide),
    SparseCore.bigSep_insert' (by decide), SparseCore.bigSep_insert' (by decide), bigSep_singleton]

theorem st0_eq (d : Dev nD) : (bigSep Finset.univ fun c : Fin ((K (F := F)).nCore 0) => (P m).st 0 d c) = oPts d (m (oLoc d)) :=
  bigSep_univ_of_subsingleton (0 : Fin 1)
theorem dn0_eq (d : Dev nD) : (bigSep Finset.univ fun c : Fin ((K (F := F)).nCore 0) => (P m).dn 0 d c) = oPts d (actions d) :=
  bigSep_univ_of_subsingleton (0 : Fin 1)

/-- The contents the program starts from, by reference. -/
abbrev V₀ (d : Dev nD) (b : Ref sig .tc) : Buf (Elt F) ((d.tc : Thread nD τ).loc b) := m ((d.tc : Thread nD τ).loc b)

/-- What the TensorCore holds at the end: the arguments as they were, the results at their values. -/
abbrev FIN (d : Dev nD) : sProp 𝕄 :=
  iprop(((d.tc : Thread nD τ).loc main_arg0 ↦{fullShare} V₀ m d main_arg0) ∗ ((d.tc : Thread nD τ).loc main_arg2 ↦{fullShare} V₀ m d main_arg2)
    ∗ oPts d (actions d) ∗ held3 d (V₀ m d main_arg1) (k1_pay2 (V₀ m d main_arg1)) (k1_pay3 (V₀ m d main_arg1)))

/-- The call that computes the logits and the baseline, on device `d`'s TensorCore. -/
theorem dense_wp [∀ e, Nonempty (Elt F e)] (d : Dev nD) :
    iprop(boundary (d.tc : Thread nD τ) ∗ (held3 d (V₀ m d main_arg1) (V₀ m d main_v1_0) (V₀ m d main_v1_1) ∗ quiet d)
        ∗ levAts (K (F := F)).L (K (F := F)).lev ∗ G d)
      ⊢ wp frame (wpE (D (F := F)) 𝒱 (d.tc : Thread nD τ) none) Set.univ (.op (.customCall (Pipeline.entry 0) ()) .ret)
          fun _ : PUnit => iprop(boundary (d.tc : Thread nD τ)
            ∗ held3 d (V₀ m d main_arg1) (k1_pay2 (V₀ m d main_arg1)) (k1_pay3 (V₀ m d main_arg1)) ∗ quiet d) := by
  have hreg := Pipeline.RegionSeg.wp (pcfgs (F := F)) adm (pdats (V₀ m)) (none : HIx 1) cellOf_inj EP defs₀ 𝒱₀ (K (F := F)).L (K (F := F)).lev (reg (V₀ m)) d
    none (fun _ h => nomatch h) (α := PUnit) .ret (fun _ : PUnit => iprop(boundary (d.tc : Thread nD τ)
            ∗ held3 d (V₀ m d main_arg1) (k1_pay2 (V₀ m d main_arg1)) (k1_pay3 (V₀ m d main_arg1)) ∗ quiet d))
  rw [reg_pre, reg_post] at hreg
  iintro ⟨Hb, HP, HL, Hc, Ht⟩
  iapply hreg
  isplitr
  · iintro H
    rw [wp_ret]
    imodintro
    iexact H
  isplitl [Hb]; · iexact Hb
  isplitl [HP]; · iexact HP
  isplitl [HL]; · iexact HL
  isplitl [Hc] <;> iassumption

theorem dense_lift [∀ e, Nonempty (Elt F e)] (d : Dev nD) :
    iprop(boundary (d.tc : Thread nD τ) ∗ (held3 d (V₀ m d main_arg1) (V₀ m d main_v1_0) (V₀ m d main_v1_1) ∗ quiet d)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ()))
          fun _ : PUnit => iprop(boundary (d.tc : Thread nD τ)
            ∗ held3 d (V₀ m d main_arg1) (k1_pay2 (V₀ m d main_arg1)) (k1_pay3 (V₀ m d main_arg1)) ∗ quiet d) :=
  (dense_wp m d).trans ((K (F := F)).wp_liftProg (D (F := F)) 𝒱 (T d) Set.univ none (.op (.customCall (Pipeline.entry 0) ()) .ret) _)

/-- Between the two calls the TensorCore owes nothing, and its record can be lent to the second. -/
theorem tcSt_quiet (d : Dev nD) : ((K (F := F)).tcSt EH d ((0 : Fin 1).val + 1) : sProp 𝕄) ⊢ iprop(quiet d ∗ (quiet d -∗ (K (F := F)).tcSt EH d ((0 : Fin 1).val + 1))) := by
  unfold SparseCore.Cfg.tcSt
  rw [SparseCore.Cfg.Otc_end _ d (show 1 ≤ (0 : Fin 1).val + 1 from Nat.le_refl 1),
    show 8 * SparseCore.Cfg.Blocks.fst 1 1 ((0 : Fin 1).val + 1) = 8 from by decide]
  iintro ⟨HO, Hst⟩
  isplitl [HO]; · iexact HO
  iintro HO
  isplitl [HO]; · iexact HO
  iexact Hst

/-- The main program: the sampler's call from the actions' array, then the call that computes the logits and the baseline. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H2, Ho, H3⟩, Hts, -⟩, HG⟩
  iapply ((K (F := F)).wp_run (D (F := F)) 𝒱 (EH := EH) (P := P m) κ d 0) $$ [Hst H0 H2 Ho H3 Hb Hts HG]
  isplitr; · iexact Hctx
  isplitl [Hst]; · iexact Hst
  isplitl [Ho]; · rw [st0_eq]; iexact Ho
  iintro ⟨Hst, Hdn⟩
  ihave Ho := (Entails.of_eq (dn0_eq m d)) $$ Hdn
  ihave Hlev := (show (K (F := F)).ctx EH (P m) κ ⊢ levAts (K (F := F)).L (K (F := F)).lev from sep_elim_left) $$ Hctx
  ihave Hq := (tcSt_quiet d) $$ Hst
  icases Hq with ⟨HO, Hst⟩
  iapply (wp_wand_r Idealize.ShloMosaic.frame _ Set.univ)
  isplitl [Hb H3 HO Hlev HG]
  · iapply (dense_lift m d)
    isplitl [Hb]; · iexact Hb
    isplitl [H3 HO]; · isplitl [H3] <;> iassumption
    isplitl [Hlev]; · iexact Hlev
    iexact HG
  iintro %_ ⟨Hb, H3, HO⟩
  ihave Hst := Hst $$ HO
  imodintro
  isplitl [Hst]; · iexact Hst
  isplitr [Hb Hts]
  · isplitl [H0]; · iexact H0
    isplitl [H2]; · iexact H2
    isplitl [Ho]; · iexact Ho
    iexact H3
  isplitl [Hb] <;> iassumption

/-! ## The run -/

/-- The arguments' arrays are unchanged, and the results' hold the actions, the logits and the baseline. -/
def fq (d : Dev nD) (s' : Phys nD τ sig (Elt F)) : Prop :=
  s'.mem.mem ((d.tc : Thread nD τ).loc main_arg0) = V₀ m d main_arg0 ∧ s'.mem.mem ((d.tc : Thread nD τ).loc main_arg1) = V₀ m d main_arg1
    ∧ s'.mem.mem ((d.tc : Thread nD τ).loc main_arg2) = V₀ m d main_arg2 ∧ s'.mem.mem ((d.tc : Thread nD τ).loc main_v0) = actions (F := F) d
    ∧ s'.mem.mem ((d.tc : Thread nD τ).loc main_v1_0) = k1_pay2 (V₀ m d main_arg1)
    ∧ s'.mem.mem ((d.tc : Thread nD τ).loc main_v1_1) = k1_pay3 (V₀ m d main_arg1)

/-- A buffer held whole at some contents is in memory at those contents. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H2, Ho, H1, Hl, Hv⟩, HSI⟩
  ihave H := (agree s' _ _) $$ [HSI H0]; · isplitl [HSI] <;> iassumption
  icases H with ⟨%h0, HSI⟩
  ihave H := (agree s' _ _) $$ [HSI H1]; · isplitl [HSI] <;> iassumption
  icases H with ⟨%h1, HSI⟩
  ihave H := (agree s' _ _) $$ [HSI H2]; · isplitl [HSI] <;> iassumption
  icases H with ⟨%h2, HSI⟩
  ihave H := (agree s' _ _) $$ [HSI Ho]; · isplitl [HSI] <;> iassumption
  icases H with ⟨%ho, HSI⟩
  ihave H := (agree s' _ _) $$ [HSI Hl]; · isplitl [HSI] <;> iassumption
  icases H with ⟨%hl, HSI⟩
  ihave H := (agree s' _ _) $$ [HSI Hv]; · isplitl [HSI] <;> iassumption
  icases H with ⟨%hv, -⟩
  ipureintro; exact ⟨h0, h1, h2, ho, hl, hv⟩

/-- What the run ends in: every device's arrays as `fq` says, and every semaphore zero. -/
def QC : PUnit × MemSt nD τ sig (Elt F) → Prop := fun r =>
  (∀ d : Dev nD, r.2.mem ((d.tc : Thread nD τ).loc main_arg0) = V₀ m d main_arg0 ∧ r.2.mem ((d.tc : Thread nD τ).loc main_arg1) = V₀ m d main_arg1
    ∧ r.2.mem ((d.tc : Thread nD τ).loc main_arg2) = V₀ m d main_arg2 ∧ r.2.mem ((d.tc : Thread nD τ).loc main_v0) = actions (F := F) d
    ∧ r.2.mem ((d.tc : Thread nD τ).loc main_v1_0) = k1_pay2 (V₀ m d main_arg1)
    ∧ r.2.mem ((d.tc : Thread nD τ).loc main_v1_1) = k1_pay3 (V₀ m d main_arg1))
  ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩) (run_main (F := Ideal) m ρ)

/-- The kernel as printed and the kernel as read over the extended reals have the same bodies. -/
theorem bodies_eq : @Cert.Kernel.defs₀ Bits _ Cert.Kernel.Gen.facts = @Cert.KernelIdeal.defs₀ Bits _ Cert.KernelIdeal.Gen.facts := by
  funext p l a
  match p with
  | .tc => fin_cases l <;> rfl
  | .scScalar c => fin_cases l <;> rfl
  | .scVector c s => fin_cases l <;> rfl

theorem defs_eq : @Cert.Kernel.defs Bits _ Cert.Kernel.Gen.facts = @Cert.KernelIdeal.defs Bits _ Cert.KernelIdeal.Gen.facts :=
  congrArg (fun b => (sc (F := Bits)).defs (Pipeline.defs pcfgs b)) bodies_eq

theorem frame_kernel : Cert.quiescent_Kernel (hKernel := Cert.Kernel.Gen.facts) := by
  intro m ρ _
  rw [defs_eq]
  have h := run_main (F := Bits) m ρ
  refine (θ_run Cert.KernelIdeal.defs _ _).mono ?_ h
  intro r h
  exact ⟨fun c => ⟨(h.1 c).1, (h.1 c).2.1, (h.1 c).2.2.1⟩, h.2⟩

end Cert.Proof.Sampler
-- ==== Proof.RefOps.lean ====
/-
  The reference's operations in order, cut where its phases meet: the distribution (`opsHead`), the counters (`opsCount`), the
  cipher's key set-up (`opsKey`) and its five groups of four rounds (`opsG1` … `opsG5`), and the noise with the choice (`opsTail`).
-/
module

public import proofs.«01_k».proof.Defs
public import proofs.«01_k».proof.Proof.Gen.ReferenceIdeal
public import Idealize.ShloMosaic.Lib.Claim
public import Idealize.ShloMosaic.Lib.Tactic

@[expose] public section

noncomputable section

namespace Cert.Proof.Ref

open Idealize.ShloMosaic Idealize.SL.Sem Cert.ReferenceIdeal
open Facts₀ Facts

variable {F : FTy → Type} [FloatOps F] [Facts]

/-- The contents of a buffer of type `T`. -/
abbrev C (F : FTy → Type) (T : BufTy) : Type := T.Contents (Elt F)

abbrev opsHead : List (HloOp τ sig (Elt F)) :=
  [StableHlo.nullary main_cst (constant S_ .f32 0x00000000#32),
   StableHlo.unary main_cst main_v0 (broadcastInDim S18 ![] bcast_S_S18 : C F ⟨S_, .f32⟩ → C F ⟨S18, .f32⟩),
   StableHlo.binary main_arg1 main_v0 main_v1 (mulf : C F ⟨S18, .f32⟩ → C F ⟨S18, .f32⟩ → C F ⟨S18, .f32⟩),
   StableHlo.unary main_v1 main_v2 (broadcastInDim S1x18 ![1] bcast_S18_S1x18_1 : C F ⟨S18, .f32⟩ → C F ⟨S1x18, .f32⟩),
   StableHlo.unary main_v2 main_v3 (broadcastInDim S512x18 ![0, 1] bcast_S1x18_S512x18_0_1 : C F ⟨S1x18, .f32⟩ → C F ⟨S512x18, .f32⟩),
   StableHlo.nullary main_cst_0 (constant S_ .f32 0x00000000#32),
   StableHlo.binary main_v3 main_cst_0 main_v4 ((fun x v => Host.reduceAdd x v reducesTo_S512x18_S512_d1 h_S_) : C F ⟨S512x18, .f32⟩ → C F ⟨S_, .f32⟩ → C F ⟨S512, .f32⟩),
   StableHlo.reshape main_v4 main_v5 (rfl : (.f32 : EltTy) = .f32) shapeCasts_S512_S16x32,
   StableHlo.nullary main_cst_1 (constant S_ .f32 0xFF800000#32),
   StableHlo.binary main_v3 main_cst_1 main_v6 ((fun x v => Host.reduce FloatOps.maximumf x v reducesTo_S512x18_S512_d1 h_S_) : C F ⟨S512x18, .f32⟩ → C F ⟨S_, .f32⟩ → C F ⟨S512, .f32⟩),
   StableHlo.nullary main_cst_2 (constant S_ .f32 0xFF800000#32),
   StableHlo.unary main_cst_2 main_v7 (broadcastInDim S512 ![] bcast_S_S512 : C F ⟨S_, .f32⟩ → C F ⟨S512, .f32⟩),
   StableHlo.binary main_v7 main_v6 main_v8 (maximumf : C F ⟨S512, .f32⟩ → C F ⟨S512, .f32⟩ → C F ⟨S512, .f32⟩),
   StableHlo.unary main_v8 main_v9 (broadcastInDim S512x1 ![0] bcast_S512_S512x1_0 : C F ⟨S512, .f32⟩ → C F ⟨S512x1, .f32⟩),
   StableHlo.unary main_v9 main_v10 (broadcastInDim S512x18 ![0, 1] bcast_S512x1_S512x18_0_1 : C F ⟨S512x1, .f32⟩ → C F ⟨S512x18, .f32⟩),
   StableHlo.binary main_v3 main_v10 main_v11 (subf : C F ⟨S512x18, .f32⟩ → C F ⟨S512x18, .f32⟩ → C F ⟨S512x18, .f32⟩),
   StableHlo.unary main_v11 main_v12 (Host.exp : C F ⟨S512x18, .f32⟩ → C F ⟨S512x18, .f32⟩),
   StableHlo.nullary main_cst_3 (constant S_ .f32 0x00000000#32),
   StableHlo.binary main_v12 main_cst_3 main_v13 ((fun x v => Host.reduceAdd x v reducesTo_S512x18_S512_d1 h_S_) : C F ⟨S512x18, .f32⟩ → C F ⟨S_, .f32⟩ → C F ⟨S512, .f32⟩),
   StableHlo.unary main_v13 main_v14 (broadcastInDim S512x1 ![0] bcast_S512_S512x1_0 : C F ⟨S512, .f32⟩ → C F ⟨S512x1, .f32⟩),
   StableHlo.unary main_v14 main_v15 (broadcastInDim S512x18 ![0, 1] bcast_S512x1_S512x18_0_1 : C F ⟨S512x1, .f32⟩ → C F ⟨S512x18, .f32⟩),
   StableHlo.binary main_v12 main_v15 main_v16 (Host.divf : C F ⟨S512x18, .f32⟩ → C F ⟨S512x18, .f32⟩ → C F ⟨S512x18, .f32⟩),
   StableHlo.nullary main_c (constantI S_ 32 123#32),
   StableHlo.nullary main_c_4 (constantI S_ 32 32#32),
   StableHlo.binary main_c main_c_4 main_v17 (Host.shrui : C F ⟨S_, .i32⟩ → C F ⟨S_, .i32⟩ → C F ⟨S_, .i32⟩),
   StableHlo.unary main_v17 main_v18 (id : C F ⟨S_, .i32⟩ → C F ⟨S_, .i32⟩),
   StableHlo.unary main_v18 main_v19 (broadcastInDim S1 ![] bcast_S_S1 : C F ⟨S_, .i32⟩ → C F ⟨S1, .i32⟩),
   StableHlo.nullary main_c_5 (constantI S_ 32 4294967295#32),
   StableHlo.binary main_c main_c_5 main_v20 (andi : C F ⟨S_, .i32⟩ → C F ⟨S_, .i32⟩ → C F ⟨S_, .i32⟩),
   StableHlo.unary main_v20 main_v21 (id : C F ⟨S_, .i32⟩ → C F ⟨S_, .i32⟩),
   StableHlo.unary main_v21 main_v22 (broadcastInDim S1 ![] bcast_S_S1 : C F ⟨S_, .i32⟩ → C F ⟨S1, .i32⟩),
   StableHlo.binary main_v19 main_v22 main_v23 ((fun a b => concatenate S2 0 [⟨S1, a⟩, ⟨S1, b⟩] concatenates_S1_S1_S2_d0) : C F ⟨S1, .i32⟩ → C F ⟨S1, .i32⟩ → C F ⟨S2, .i32⟩),
   StableHlo.nullary main_cst_6 (constant S_ .f32 0x1E3CE508#32),
   StableHlo.unary main_cst_6 main_v24 (broadcastInDim S512x18 ![] bcast_S_S512x18 : C F ⟨S_, .f32⟩ → C F ⟨S512x18, .f32⟩),
   StableHlo.binary main_v16 main_v24 main_v25 (addf : C F ⟨S512x18, .f32⟩ → C F ⟨S512x18, .f32⟩ → C F ⟨S512x18, .f32⟩),
   StableHlo.unary main_v25 main_v26 (Host.log : C F ⟨S512x18, .f32⟩ → C F ⟨S512x18, .f32⟩)]

abbrev opsCount : List (HloOp τ sig (Elt F)) :=
  [StableHlo.nullary main_call0_cst (constant S_ .f32 0x3F800000#32),
   StableHlo.nullary main_call0_cst_0 (constant S_ .f32 0x00800000#32),
   StableHlo.unary main_call0_cst main_call0_call0_v0 (id : C F ⟨S_, .f32⟩ → C F ⟨S_, .f32⟩),
   StableHlo.unary main_call0_cst_0 main_call0_call0_v1 ((broadcastInDim S1x1 ![] bcast_S_S1x1) : C F ⟨S_, .f32⟩ → C F ⟨S1x1, .f32⟩),
   StableHlo.unary main_call0_call0_v0 main_call0_call0_v2 ((broadcastInDim S1x1 ![] bcast_S_S1x1) : C F ⟨S_, .f32⟩ → C F ⟨S1x1, .f32⟩),
   StableHlo.unary main_v23 main_call0_call0_v3 ((extractStridedSlice S1 ![0] · slices_S2_S1_0) : C F ⟨S2, .i32⟩ → C F ⟨S1, .i32⟩),
   StableHlo.reshape main_call0_call0_v3 main_call0_call0_v4 (rfl : (.i32 : EltTy) = .i32) shapeCasts_S1_S_,
   StableHlo.unary main_v23 main_call0_call0_v5 ((extractStridedSlice S1 ![1] · slices_S2_S1_1) : C F ⟨S2, .i32⟩ → C F ⟨S1, .i32⟩),
   StableHlo.reshape main_call0_call0_v5 main_call0_call0_v6 (rfl : (.i32 : EltTy) = .i32) shapeCasts_S1_S_,
   StableHlo.nullary main_call0_call0_v7 (iotaInDim S512x18 64 0),
   StableHlo.nullary main_call0_call0_v8 (iotaInDim S512x18 64 1),
   StableHlo.nullary main_call0_call0_c (constantI S_ 64 18#64),
   StableHlo.unary main_call0_call0_c main_call0_call0_v9 ((broadcastInDim S512x18 ![] bcast_S_S512x18) : C F ⟨S_, .i64⟩ → C F ⟨S512x18, .i64⟩),
   StableHlo.binary main_call0_call0_v9 main_call0_call0_v7 main_call0_call0_v10 (muli : C F ⟨S512x18, .i64⟩ → C F ⟨S512x18, .i64⟩ → C F ⟨S512x18, .i64⟩),
   StableHlo.nullary main_call0_call0_c_0 (constantI S_ 64 1#64),
   StableHlo.unary main_call0_call0_c_0 main_call0_call0_v11 ((broadcastInDim S512x18 ![] bcast_S_S512x18) : C F ⟨S_, .i64⟩ → C F ⟨S512x18, .i64⟩),
   StableHlo.binary main_call0_call0_v11 main_call0_call0_v8 main_call0_call0_v12 (muli : C F ⟨S512x18, .i64⟩ → C F ⟨S512x18, .i64⟩ → C F ⟨S512x18, .i64⟩),
   StableHlo.binary main_call0_call0_v10 main_call0_call0_v12 main_call0_call0_v13 (addi : C F ⟨S512x18, .i64⟩ → C F ⟨S512x18, .i64⟩ → C F ⟨S512x18, .i64⟩),
   StableHlo.nullary main_call0_call0_c_1 (constantI S_ 64 32#64),
   StableHlo.unary main_call0_call0_c_1 main_call0_call0_v14 ((broadcastInDim S512x18 ![] bcast_S_S512x18) : C F ⟨S_, .i64⟩ → C F ⟨S512x18, .i64⟩),
   StableHlo.binary main_call0_call0_v13 main_call0_call0_v14 main_call0_call0_v15 (Host.shrui : C F ⟨S512x18, .i64⟩ → C F ⟨S512x18, .i64⟩ → C F ⟨S512x18, .i64⟩),
   StableHlo.unary main_call0_call0_v13 main_call0_call0_v16 ((trunci 32 · natLt_32_64) : C F ⟨S512x18, .i64⟩ → C F ⟨S512x18, .i32⟩),
   StableHlo.unary main_call0_call0_v15 main_call0_call0_v17 ((trunci 32 · natLt_32_64) : C F ⟨S512x18, .i64⟩ → C F ⟨S512x18, .i32⟩)]

abbrev opsKey : List (HloOp τ sig (Elt F)) :=
  [StableHlo.binary main_call0_call0_v4 main_call0_call0_v6 main_call0_call0_call0_v0 (xori : C F ⟨S_, .i32⟩ → C F ⟨S_, .i32⟩ → C F ⟨S_, .i32⟩),
   StableHlo.nullary main_call0_call0_call0_c (constantI S_ 32 466688986#32),
   StableHlo.binary main_call0_call0_call0_v0 main_call0_call0_call0_c main_call0_call0_call0_v1 (xori : C F ⟨S_, .i32⟩ → C F ⟨S_, .i32⟩ → C F ⟨S_, .i32⟩),
   StableHlo.unary main_call0_call0_v4 main_call0_call0_call0_v2 ((broadcastInDim S512x18 ![] bcast_S_S512x18) : C F ⟨S_, .i32⟩ → C F ⟨S512x18, .i32⟩),
   StableHlo.binary main_call0_call0_v17 main_call0_call0_call0_v2 main_call0_call0_call0_v3 (addi : C F ⟨S512x18, .i32⟩ → C F ⟨S512x18, .i32⟩ → C F ⟨S512x18, .i32⟩),
   StableHlo.unary main_call0_call0_v6 main_call0_call0_call0_v4 ((broadcastInDim S512x18 ![] bcast_S_S512x18) : C F ⟨S_, .i32⟩ → C F ⟨S512x18, .i32⟩),
   StableHlo.binary main_call0_call0_v16 main_call0_call0_call0_v4 main_call0_call0_call0_v5 (addi : C F ⟨S512x18, .i32⟩ → C F ⟨S512x18, .i32⟩ → C F ⟨S512x18, .i32⟩)]

abbrev opsG1 : List (HloOp τ sig (Elt F)) :=
  [StableHlo.binary main_call0_call0_call0_v3 main_call0_call0_call0_v5 main_call0_call0_call0_v6 (addi : C F ⟨S512x18, .i32⟩ → C F ⟨S512x18, .i32⟩ → C F ⟨S512x18, .i32⟩),
   StableHlo.nullary main_call0_call0_call0_c_0 (constantI S_ 32 13#32),
   StableHlo.unary main_call0_call0_call0_c_0 main_call0_call0_call0_v7 ((broadcastInDim S512x18 ![] bcast_S_S512x18) : C F ⟨S_, .i32⟩ → C F ⟨S512x18, .i32⟩),
   StableHlo.binary main_call0_call0_call0_v5 main_call0_call0_call0_v7 main_call0_call0_call0_v8 (Host.shli : C F ⟨S512x18, .i32⟩ → C F ⟨S512x18, .i32⟩ → C F ⟨S512x18, .i32⟩),
   StableHlo.nullary main_call0_call0_call0_c_1 (constantI S_ 32 19#32),
   StableHlo.unary main_call0_call0_call0_c_1 main_call0_call0_call0_v9 ((broadcastInDim S512x18 ![] bcast_S_S512x18) : C F ⟨S_, .i32⟩ → C F ⟨S512x18, .i32⟩),
   StableHlo.binary main_call0_call0_call0_v5 main_call0_call0_call0_v9 main_call0_call0_call0_v10 (Host.shrui : C F ⟨S512x18, .i32⟩ → C F ⟨S512x18, .i32⟩ → C F ⟨S512x18, .i32⟩),
   StableHlo.binary main_call0_call0_call0_v8 main_call0_call0_call0_v10 main_call0_call0_call0_v11 (ori : C F ⟨S512x18, .i32⟩ → C F ⟨S512x18, .i32⟩ → C F ⟨S512x18, .i32⟩),
   StableHlo.binary main_call0_call0_call0_v6 main_call0_call0_call0_v11 main_call0_call0_call0_v12 (xori : C F ⟨S512x18, .i32⟩ → C F ⟨S512x18, .i32⟩ → C F ⟨S512x18, .i32⟩),
   StableHlo.binary main_call0_call0_call0_v6 main_call0_call0_call0_v12 main_call0_call0_call0_v13 (addi : C F ⟨S512x18, .i32⟩ → C F ⟨S512x18, .i32⟩ → C F ⟨S512x18, .i32⟩),
   StableHlo.nullary main_call0_call0_call0_c_2 (constantI S_ 32 15#32),
   StableHlo.unary main_call0_call0_call0_c_2 main_call0_call0_call0_v14 ((broadcastInDim S512x18 ![] bcast_S_S512x18) : C F ⟨S_, .i32⟩ → C F ⟨S512x18, .i32⟩),
   StableHlo.binary main_call0_call0_call0_v12 main_call0_call0_call0_v14 main_call0_call0_call0_v15 (Host.shli : C F ⟨S512x18, .i32⟩ → C F ⟨S512x18, .i32⟩ → C F ⟨S512x18, .i32⟩),
   StableHlo.nullary main_call0_call0_call0_c_3 (constantI S_ 32 17#32),
   StableHlo.unary main_call0_call0_call0_c_3 main_call0_call0_call0_v16 ((broadcastInDim S512x18 ![] bcast_S_S512x18) : C F ⟨S_, .i32⟩ → C F ⟨S512x18, .i32⟩),
   StableHlo.binary main_call0_call0_call0_v12 main_call0_call0_call0_v16 main_call0_call0_call0_v17 (Host.shrui : C F ⟨S512x18, .i32⟩ → C F ⟨S512x18, .i32⟩ → C F ⟨S512x18, .i32⟩),
   StableHlo.binary main_call0_call0_call0_v15 main_call0_call0_call0_v17 main_call0_call0_call0_v18 (ori : C F ⟨S512x18, .i32⟩ → C F ⟨S512x18, .i32⟩ → C F ⟨S512x18, .i32⟩),
   StableHlo.binary main_call0_call0_call0_v13 main_call0_call0_call0_v18 main_call0_call0_call0_v19 (xori : C F ⟨S512x18, .i32⟩ → C F ⟨S512x18, .i32⟩ → C F ⟨S512x18, .i32⟩),
   StableHlo.binary main_call0_call0_call0_v13 main_call0_call0_call0_v19 main_call0_call0_call0_v20 (addi : C F ⟨S512x18, .i32⟩ → C F ⟨S512x18, .i32⟩ → C F ⟨S512x18, .i32⟩),
   StableHlo.nullary main_call0_call0_call0_c_4 (constantI S_ 32 26#32),
   StableHlo.unary main_call0_call0_call0_c_4 main_call0_call0_call0_v21 ((broadcastInDim S512x18 ![] bcast_S_S512x18) : C F ⟨S_, .i32⟩ → C F ⟨S512x18, .i32⟩),
   StableHlo.binary main_call0_call0_call0_v19 main_call0_call0_call0_v21 main_call0_call0_call0_v22 (Host.shli : C F ⟨S512x18, .i32⟩ → C F ⟨S512x18, .i32⟩ → C F ⟨S512x18, .i32⟩),
   StableHlo.nullary main_call0_call0_call0_c_5 (constantI S_ 32 6#32),
   StableHlo.unary main_call0_call0_call0_c_5 main_call0_call0_call0_v23 ((broadcastInDim S512x18 ![] bcast_S_S512x18) : C F ⟨S_, .i32⟩ → C F ⟨S512x18, .i32⟩),
   StableHlo.binary main_call0_call0_call0_v19 main_call0_call0_call0_v23 main_call0_call0_call0_v24 (Host.shrui : C F ⟨S512x18, .i32⟩ → C F ⟨S512x18, .i32⟩ → C F ⟨S512x18, .i32⟩),
   StableHlo.binary main_call0_call0_call0_v22 main_call0_call0_call0_v24 main_call0_call0_call0_v25 (ori : C F ⟨S512x18, .i32⟩ → C F ⟨S512x18, .i32⟩ → C F ⟨S512x18, .i32⟩),
   StableHlo.binary main_call0_call0_call0_v20 main_call0_call0_call0_v25 main_call0_call0_call0_v26 (xori : C F ⟨S512x18, .i32⟩ → C F ⟨S512x18, .i32⟩ → C F ⟨S512x18, .i32⟩),
   StableHlo.binary main_call0_call0_call0_v20 main_call0_call0_call0_v26 main_call0_call0_call0_v27 (addi : C F ⟨S512x18, .i32⟩ → C F ⟨S512x18, .i32⟩ → C F ⟨S512x18, .i32⟩),
   StableHlo.nullary main_call0_call0_call0_c_6 (constantI S_ 32 6#32),
   StableHlo.unary main_call0_call0_call0_c_6 main_call0_call0_call0_v28 ((broadcastInDim S512x18 ![] bcast_S_S512x18) : C F ⟨S_, .i32⟩ → C F ⟨S512x18, .i32⟩),
   StableHlo.binary main_call0_call0_call0_v26 main_call0_call0_call0_v28 main_call0_call0_call0_v29 (Host.shli : C F ⟨S512x18, .i32⟩ → C F ⟨S512x18, .i32⟩ → C F ⟨S512x18, .i32⟩),
   StableHlo.nullary main_call0_call0_call0_c_7 (constantI S_ 32 26#32),
   StableHlo.unary main_call0_call0_call0_c_7 main_call0_call0_call0_v30 ((broadcastInDim S512x18 ![] bcast_S_S512x18) : C F ⟨S_, .i32⟩ → C F ⟨S512x18, .i32⟩),
   StableHlo.binary main_call0_call0_call0_v26 main_call0_call0_call0_v30 main_call0_call0_call0_v31 (Host.shrui : C F ⟨S512x18, .i32⟩ → C F ⟨S512x18, .i32⟩ → C F ⟨S512x18, .i32⟩),
   StableHlo.binary main_call0_call0_call0_v29 main_call0_call0_call0_v31 main_call0_call0_call0_v32 (ori : C F ⟨S512x18, .i32⟩ → C F ⟨S512x18, .i32⟩ → C F ⟨S512x18, .i32⟩),
   StableHlo.binary main_call0_call0_call0_v27 main_call0_call0_call0_v32 main_call0_call0_call0_v33 (xori : C F ⟨S512x18, .i32⟩ → C F ⟨S512x18, .i32⟩ → C F ⟨S512x18, .i32⟩),
   StableHlo.unary main_call0_call0_v6 main_call0_call0_call0_v34 ((broadcastInDim S512x18 ![] bcast_S_S512x18) : C F ⟨S_, .i32⟩ → C F ⟨S512x18, .i32⟩),
   StableHlo.binary main_call0_call0_call0_v27 main_call0_call0_call0_v34 main_call0_call0_call0_v35 (addi : C F ⟨S512x18, .i32⟩ → C F ⟨S512x18, .i32⟩ → C F ⟨S512x18, .i32⟩),
   StableHlo.unary main_call0_call0_call0_v1 main_call0_call0_call0_v36 ((broadcastInDim S512x18 ![] bcast_S_S512x18) : C F ⟨S_, .i32⟩ → C F ⟨S512x18, .i32⟩),
   StableHlo.binary main_call0_call0_call0_v33 main_call0_call0_call0_v36 main_call0_call0_call0_v37 (addi : C F ⟨S512x18, .i32⟩ → C F ⟨S512x18, .i32⟩ → C F ⟨S512x18, .i32⟩),
   StableHlo.nullary main_call0_call0_call0_c_8 (constantI S_ 32 1#32),
   StableHlo.unary main_call0_call0_call0_c_8 main_call0_call0_call0_v38 ((broadcastInDim S512x18 ![] bcast_S_S512x18) : C F ⟨S_, .i32⟩ → C F ⟨S512x18, .i32⟩),
   StableHlo.binary main_call0_call0_call0_v37 main_call0_call0_call0_v38 main_call0_call0_call0_v39 (addi : C F ⟨S512x18, .i32⟩ → C F ⟨S512x18, .i32⟩ → C F ⟨S512x18, .i32⟩)]

abbrev opsG2 : List (HloOp τ sig (Elt F)) :=
  [StableHlo.binary main_call0_call0_call0_v35 main_call0_call0_call0_v39 main_call0_call0_call0_v40 (addi : C F ⟨S512x18, .i32⟩ → C F ⟨S512x18, .i32⟩ → C F ⟨S512x18, .i32⟩),
   StableHlo.nullary main_call0_call0_call0_c_9 (constantI S_ 32 17#32),
   StableHlo.unary main_call0_call0_call0_c_9 main_call0_call0_call0_v41 ((broadcastInDim S512x18 ![] bcast_S_S512x18) : C F ⟨S_, .i32⟩ → C F ⟨S512x18, .i32⟩),
   StableHlo.binary main_call0_call0_call0_v39 main_call0_call0_call0_v41 main_call0_call0_call0_v42 (Host.shli : C F ⟨S512x18, .i32⟩ → C F ⟨S512x18, .i32⟩ → C F ⟨S512x18, .i32⟩),
   StableHlo.nullary main_call0_call0_call0_c_10 (constantI S_ 32 15#32),
   StableHlo.unary main_call0_call0_call0_c_10 main_call0_call0_call0_v43 ((broadcastInDim S512x18 ![] bcast_S_S512x18) : C F ⟨S_, .i32⟩ → C F ⟨S512x18, .i32⟩),
   StableHlo.binary main_call0_call0_call0_v39 main_call0_call0_call0_v43 main_call0_call0_call0_v44 (Host.shrui : C F ⟨S512x18, .i32⟩ → C F ⟨S512x18, .i32⟩ → C F ⟨S512x18, .i32⟩),
   StableHlo.binary main_call0_call0_call0_v42 main_call0_call0_call0_v44 main_call0_call0_call0_v45 (ori : C F ⟨S512x18, .i32⟩ → C F ⟨S512x18, .i32⟩ → C F ⟨S512x18, .i32⟩),
   StableHlo.binary main_call0_call0_call0_v40 main_call0_call0_call0_v45 main_call0_call0_call0_v46 (xori : C F ⟨S512x18, .i32⟩ → C F ⟨S512x18, .i32⟩ → C F ⟨S512x18, .i32⟩),
   StableHlo.binary main_call0_call0_call0_v40 main_call0_call0_call0_v46 main_call0_call0_call0_v47 (addi : C F ⟨S512x18, .i32⟩ → C F ⟨S512x18, .i32⟩ → C F ⟨S512x18, .i32⟩),
   StableHlo.nullary main_call0_call0_call0_c_11 (constantI S_ 32 29#32),
   StableHlo.unary main_call0_call0_call0_c_11 main_call0_call0_call0_v48 ((broadcastInDim S512x18 ![] bcast_S_S512x18) : C F ⟨S_, .i32⟩ → C F ⟨S512x18, .i32⟩),
   StableHlo.binary main_call0_call0_call0_v46 main_call0_call0_call0_v48 main_call0_call0_call0_v49 (Host.shli : C F ⟨S512x18, .i32⟩ → C F ⟨S512x18, .i32⟩ → C F ⟨S512x18, .i32⟩),
   StableHlo.nullary main_call0_call0_call0_c_12 (constantI S_ 32 3#32),
   StableHlo.unary main_call0_call0_call0_c_12 main_call0_call0_call0_v50 ((broadcastInDim S512x18 ![] bcast_S_S512x18) : C F ⟨S_, .i32⟩ → C F ⟨S512x18, .i32⟩),
   StableHlo.binary main_call0_call0_call0_v46 main_call0_call0_call0_v50 main_call0_call0_call0_v51 (Host.shrui : C F ⟨S512x18, .i32⟩ → C F ⟨S512x18, .i32⟩ → C F ⟨S512x18, .i32⟩),
   StableHlo.binary main_call0_call0_call0_v49 main_call0_call0_call0_v51 main_call0_call0_call0_v52 (ori : C F ⟨S512x18, .i32⟩ → C F ⟨S512x18, .i32⟩ → C F ⟨S512x18, .i32⟩),
   StableHlo.binary main_call0_call0_call0_v47 main_call0_call0_call0_v52 main_call0_call0_call0_v53 (xori : C F ⟨S512x18, .i32⟩ → C F ⟨S512x18, .i32⟩ → C F ⟨S512x18, .i32⟩),
   StableHlo.binary main_call0_call0_call0_v47 main_call0_call0_call0_v53 main_call0_call0_call0_v54 (addi : C F ⟨S512x18, .i32⟩ → C F ⟨S512x18, .i32⟩ → C F ⟨S512x18, .i32⟩),
   StableHlo.nullary main_call0_call0_call0_c_13 (constantI S_ 32 16#32),
   StableHlo.unary main_call0_call0_call0_c_13 main_call0_call0_call0_v55 ((broadcastInDim S512x18 ![] bcast_S_S512x18) : C F ⟨S_, .i32⟩ → C F ⟨S512x18, .i32⟩),
   StableHlo.binary main_call0_call0_call0_v53 main_call0_call0_call0_v55 main_call0_call0_call0_v56 (Host.shli : C F ⟨S512x18, .i32⟩ → C F ⟨S512x18, .i32⟩ → C F ⟨S512x18, .i32⟩),
   StableHlo.nullary main_call0_call0_call0_c_14 (constantI S_ 32 16#32),
   StableHlo.unary main_call0_call0_call0_c_14 main_call0_call0_call0_v57 ((broadcastInDim S512x18 ![] bcast_S_S512x18) : C F ⟨S_, .i32⟩ → C F ⟨S512x18, .i32⟩),
   StableHlo.binary main_call0_call0_call0_v53 main_call0_call0_call0_v57 main_call0_call0_call0_v58 (Host.shrui : C F ⟨S512x18, .i32⟩ → C F ⟨S512x18, .i32⟩ → C F ⟨S512x18, .i32⟩),
   StableHlo.binary main_call0_call0_call0_v56 main_call0_call0_call0_v58 main_call0_call0_call0_v59 (ori : C F ⟨S512x18, .i32⟩ → C F ⟨S512x18, .i32⟩ → C F ⟨S512x18, .i32⟩),
   StableHlo.binary main_call0_call0_call0_v54 main_call0_call0_call0_v59 main_call0_call0_call0_v60 (xori : C F ⟨S512x18, .i32⟩ → C F ⟨S512x18, .i32⟩ → C F ⟨S512x18, .i32⟩),
   StableHlo.binary main_call0_call0_call0_v54 main_call0_call0_call0_v60 main_call0_call0_call0_v61 (addi : C F ⟨S512x18, .i32⟩ → C F ⟨S512x18, .i32⟩ → C F ⟨S512x18, .i32⟩),
   StableHlo.nullary main_call0_call0_call0_c_15 (constantI S_ 32 24#32),
   StableHlo.unary main_call0_call0_call0_c_15 main_call0_call0_call0_v62 ((broadcastInDim S512x18 ![] bcast_S_S512x18) : C F ⟨S_, .i32⟩ → C F ⟨S512x18, .i32⟩),
   StableHlo.binary main_call0_call0_call0_v60 main_call0_call0_call0_v62 main_call0_call0_call0_v63 (Host.shli : C F ⟨S512x18, .i32⟩ → C F ⟨S512x18, .i32⟩ → C F ⟨S512x18, .i32⟩),
   StableHlo.nullary main_call0_call0_call0_c_16 (constantI S_ 32 8#32),
   StableHlo.unary main_call0_call0_call0_c_16 main_call0_call0_call0_v64 ((broadcastInDim S512x18 ![] bcast_S_S512x18) : C F ⟨S_, .i32⟩ → C F ⟨S512x18, .i32⟩),
   StableHlo.binary main_call0_call0_call0_v60 main_call0_call0_call0_v64 main_call0_call0_call0_v65 (Host.shrui : C F ⟨S512x18, .i32⟩ → C F ⟨S512x18, .i32⟩ → C F ⟨S512x18, .i32⟩),
   StableHlo.binary main_call0_call0_call0_v63 main_call0_call0_call0_v65 main_call0_call0_call0_v66 (ori : C F ⟨S512x18, .i32⟩ → C F ⟨S512x18, .i32⟩ → C F ⟨S512x18, .i32⟩),
   StableHlo.binary main_call0_call0_call0_v61 main_call0_call0_call0_v66 main_call0_call0_call0_v67 (xori : C F ⟨S512x18, .i32⟩ → C F ⟨S512x18, .i32⟩ → C F ⟨S512x18, .i32⟩),
   StableHlo.unary main_call0_call0_call0_v1 main_call0_call0_call0_v68 ((broadcastInDim S512x18 ![] bcast_S_S512x18) : C F ⟨S_, .i32⟩ → C F ⟨S512x18, .i32⟩),
   StableHlo.binary main_call0_call0_call0_v61 main_call0_call0_call0_v68 main_call0_call0_call0_v69 (addi : C F ⟨S512x18, .i32⟩ → C F ⟨S512x18, .i32⟩ → C F ⟨S512x18, .i32⟩),
   StableHlo.unary main_call0_call0_v4 main_call0_call0_call0_v70 ((broadcastInDim S512x18 ![] bcast_S_S512x18) : C F ⟨S_, .i32⟩ → C F ⟨S512x18, .i32⟩),
   StableHlo.binary main_call0_call0_call0_v67 main_call0_call0_call0_v70 main_call0_call0_call0_v71 (addi : C F ⟨S512x18, .i32⟩ → C F ⟨S512x18, .i32⟩ → C F ⟨S512x18, .i32⟩),
   StableHlo.nullary main_call0_call0_call0_c_17 (constantI S_ 32 2#32),
   StableHlo.unary main_call0_call0_call0_c_17 main_call0_call0_call0_v72 ((broadcastInDim S512x18 ![] bcast_S_S512x18) : C F ⟨S_, .i32⟩ → C F ⟨S512x18, .i32⟩),
   StableHlo.binary main_call0_call0_call0_v71 main_call0_call0_call0_v72 main_call0_call0_call0_v73 (addi : C F ⟨S512x18, .i32⟩ → C F ⟨S512x18, .i32⟩ → C F ⟨S512x18, .i32⟩)]

abbrev opsG3 : List (HloOp τ sig (Elt F)) :=
  [StableHlo.binary main_call0_call0_call0_v69 main_call0_call0_call0_v73 main_call0_call0_call0_v74 (addi : C F ⟨S512x18, .i32⟩ → C F ⟨S512x18, .i32⟩ → C F ⟨S512x18, .i32⟩),
   StableHlo.nullary main_call0_call0_call0_c_18 (constantI S_ 32 13#32),
   StableHlo.unary main_call0_call0_call0_c_18 main_call0_call0_call0_v75 ((broadcastInDim S512x18 ![] bcast_S_S512x18) : C F ⟨S_, .i32⟩ → C F ⟨S512x18, .i32⟩),
   StableHlo.binary main_call0_call0_call0_v73 main_call0_call0_call0_v75 main_call0_call0_call0_v76 (Host.shli : C F ⟨S512x18, .i32⟩ → C F ⟨S512x18, .i32⟩ → C F ⟨S512x18, .i32⟩),
   StableHlo.nullary main_call0_call0_call0_c_19 (constantI S_ 32 19#32),
   StableHlo.unary main_call0_call0_call0_c_19 main_call0_call0_call0_v77 ((broadcastInDim S512x18 ![] bcast_S_S512x18) : C F ⟨S_, .i32⟩ → C F ⟨S512x18, .i32⟩),
   StableHlo.binary main_call0_call0_call0_v73 main_call0_call0_call0_v77 main_call0_call0_call0_v78 (Host.shrui : C F ⟨S512x18, .i32⟩ → C F ⟨S512x18, .i32⟩ → C F ⟨S512x18, .i32⟩),
   StableHlo.binary main_call0_call0_call0_v76 main_call0_call0_call0_v78 main_call0_call0_call0_v79 (ori : C F ⟨S512x18, .i32⟩ → C F ⟨S512x18, .i32⟩ → C F ⟨S512x18, .i32⟩),
   StableHlo.binary main_call0_call0_call0_v74 main_call0_call0_call0_v79 main_call0_call0_call0_v80 (xori : C F ⟨S512x18, .i32⟩ → C F ⟨S512x18, .i32⟩ → C F ⟨S512x18, .i32⟩),
   StableHlo.binary main_call0_call0_call0_v74 main_call0_call0_call0_v80 main_call0_call0_call0_v81 (addi : C F ⟨S512x18, .i32⟩ → C F ⟨S512x18, .i32⟩ → C F ⟨S512x18, .i32⟩),
   StableHlo.nullary main_call0_call0_call0_c_20 (constantI S_ 32 15#32),
   StableHlo.unary main_call0_call0_call0_c_20 main_call0_call0_call0_v82 ((broadcastInDim S512x18 ![] bcast_S_S512x18) : C F ⟨S_, .i32⟩ → C F ⟨S512x18, .i32⟩),
   StableHlo.binary main_call0_call0_call0_v80 main_call0_call0_call0_v82 main_call0_call0_call0_v83 (Host.shli : C F ⟨S512x18, .i32⟩ → C F ⟨S512x18, .i32⟩ → C F ⟨S512x18, .i32⟩),
   StableHlo.nullary main_call0_call0_call0_c_21 (constantI S_ 32 17#32),
   StableHlo.unary main_call0_call0_call0_c_21 main_call0_call0_call0_v84 ((broadcastInDim S512x18 ![] bcast_S_S512x18) : C F ⟨S_, .i32⟩ → C F ⟨S512x18, .i32⟩),
   StableHlo.binary main_call0_call0_call0_v80 main_call0_call0_call0_v84 main_call0_call0_call0_v85 (Host.shrui : C F ⟨S512x18, .i32⟩ → C F ⟨S512x18, .i32⟩ → C F ⟨S512x18, .i32⟩),
   StableHlo.binary main_call0_call0_call0_v83 main_call0_call0_call0_v85 main_call0_call0_call0_v86 (ori : C F ⟨S512x18, .i32⟩ → C F ⟨S512x18, .i32⟩ → C F ⟨S512x18, .i32⟩),
   StableHlo.binary main_call0_call0_call0_v81 main_call0_call0_call0_v86 main_call0_call0_call0_v87 (xori : C F ⟨S512x18, .i32⟩ → C F ⟨S512x18, .i32⟩ → C F ⟨S512x18, .i32⟩),
   StableHlo.binary main_call0_call0_call0_v81 main_call0_call0_call0_v87 main_call0_call0_call0_v88 (addi : C F ⟨S512x18, .i32⟩ → C F ⟨S512x18, .i32⟩ → C F ⟨S512x18, .i32⟩),
   StableHlo.nullary main_call0_call0_call0_c_22 (constantI S_ 32 26#32),
   StableHlo.unary main_call0_call0_call0_c_22 main_call0_call0_call0_v89 ((broadcastInDim S512x18 ![] bcast_S_S512x18) : C F ⟨S_, .i32⟩ → C F ⟨S512x18, .i32⟩),
   StableHlo.binary main_call0_call0_call0_v87 main_call0_call0_call0_v89 main_call0_call0_call0_v90 (Host.shli : C F ⟨S512x18, .i32⟩ → C F ⟨S512x18, .i32⟩ → C F ⟨S512x18, .i32⟩),
   StableHlo.nullary main_call0_call0_call0_c_23 (constantI S_ 32 6#32),
   StableHlo.unary main_call0_call0_call0_c_23 main_call0_call0_call0_v91 ((broadcastInDim S512x18 ![] bcast_S_S512x18) : C F ⟨S_, .i32⟩ → C F ⟨S512x18, .i32⟩),
   StableHlo.binary main_call0_call0_call0_v87 main_call0_call0_call0_v91 main_call0_call0_call0_v92 (Host.shrui : C F ⟨S512x18, .i32⟩ → C F ⟨S512x18, .i32⟩ → C F ⟨S512x18, .i32⟩),
   StableHlo.binary main_call0_call0_call0_v90 main_call0_call0_call0_v92 main_call0_call0_call0_v93 (ori : C F ⟨S512x18, .i32⟩ → C F ⟨S512x18, .i32⟩ → C F ⟨S512x18, .i32⟩),
   StableHlo.binary main_call0_call0_call0_v88 main_call0_call0_call0_v93 main_call0_call0_call0_v94 (xori : C F ⟨S512x18, .i32⟩ → C F ⟨S512x18, .i32⟩ → C F ⟨S512x18, .i32⟩),
   StableHlo.binary main_call0_call0_call0_v88 main_call0_call0_call0_v94 main_call0_call0_call0_v95 (addi : C F ⟨S512x18, .i32⟩ → C F ⟨S512x18, .i32⟩ → C F ⟨S512x18, .i32⟩),
   StableHlo.nullary main_call0_call0_call0_c_24 (constantI S_ 32 6#32),
   StableHlo.unary main_call0_call0_call0_c_24 main_call0_call0_call0_v96 ((broadcastInDim S512x18 ![] bcast_S_S512x18) : C F ⟨S_, .i32⟩ → C F ⟨S512x18, .i32⟩),
   StableHlo.binary main_call0_call0_call0_v94 main_call0_call0_call0_v96 main_call0_call0_call0_v97 (Host.shli : C F ⟨S512x18, .i32⟩ → C F ⟨S512x18, .i32⟩ → C F ⟨S512x18, .i32⟩),
   StableHlo.nullary main_call0_call0_call0_c_25 (constantI S_ 32 26#32),
   StableHlo.unary main_call0_call0_call0_c_25 main_call0_call0_call0_v98 ((broadcastInDim S512x18 ![] bcast_S_S512x18) : C F ⟨S_, .i32⟩ → C F ⟨S512x18, .i32⟩),
   StableHlo.binary main_call0_call0_call0_v94 main_call0_call0_call0_v98 main_call0_call0_call0_v99 (Host.shrui : C F ⟨S512x18, .i32⟩ → C F ⟨S512x18, .i32⟩ → C F ⟨S512x18, .i32⟩),
   StableHlo.binary main_call0_call0_call0_v97 main_call0_call0_call0_v99 main_call0_call0_call0_v100 (ori : C F ⟨S512x18, .i32⟩ → C F ⟨S512x18, .i32⟩ → C F ⟨S512x18, .i32⟩),
   StableHlo.binary main_call0_call0_call0_v95 main_call0_call0_call0_v100 main_call0_call0_call0_v101 (xori : C F ⟨S512x18, .i32⟩ → C F ⟨S512x18, .i32⟩ → C F ⟨S512x18, .i32⟩),
   StableHlo.unary main_call0_call0_v4 main_call0_call0_call0_v102 ((broadcastInDim S512x18 ![] bcast_S_S512x18) : C F ⟨S_, .i32⟩ → C F ⟨S512x18, .i32⟩),
   StableHlo.binary main_call0_call0_call0_v95 main_call0_call0_call0_v102 main_call0_call0_call0_v103 (addi : C F ⟨S512x18, .i32⟩ → C F ⟨S512x18, .i32⟩ → C F ⟨S512x18, .i32⟩),
   StableHlo.unary main_call0_call0_v6 main_call0_call0_call0_v104 ((broadcastInDim S512x18 ![] bcast_S_S512x18) : C F ⟨S_, .i32⟩ → C F ⟨S512x18, .i32⟩),
   StableHlo.binary main_call0_call0_call0_v101 main_call0_call0_call0_v104 main_call0_call0_call0_v105 (addi : C F ⟨S512x18, .i32⟩ → C F ⟨S512x18, .i32⟩ → C F ⟨S512x18, .i32⟩),
   StableHlo.nullary main_call0_call0_call0_c_26 (constantI S_ 32 3#32),
   StableHlo.unary main_call0_call0_call0_c_26 main_call0_call0_call0_v106 ((broadcastInDim S512x18 ![] bcast_S_S512x18) : C F ⟨S_, .i32⟩ → C F ⟨S512x18, .i32⟩),
   StableHlo.binary main_call0_call0_call0_v105 main_call0_call0_call0_v106 main_call0_call0_call0_v107 (addi : C F ⟨S512x18, .i32⟩ → C F ⟨S512x18, .i32⟩ → C F ⟨S512x18, .i32⟩)]

abbrev opsG4 : List (HloOp τ sig (Elt F)) :=
  [StableHlo.binary main_call0_call0_call0_v103 main_call0_call0_call0_v107 main_call0_call0_call0_v108 (addi : C F ⟨S512x18, .i32⟩ → C F ⟨S512x18, .i32⟩ → C F ⟨S512x18, .i32⟩),
   StableHlo.nullary main_call0_call0_call0_c_27 (constantI S_ 32 17#32),
   StableHlo.unary main_call0_call0_call0_c_27 main_call0_call0_call0_v109 ((broadcastInDim S512x18 ![] bcast_S_S512x18) : C F ⟨S_, .i32⟩ → C F ⟨S512x18, .i32⟩),
   StableHlo.binary main_call0_call0_call0_v107 main_call0_call0_call0_v109 main_call0_call0_call0_v110 (Host.shli : C F ⟨S512x18, .i32⟩ → C F ⟨S512x18, .i32⟩ → C F ⟨S512x18, .i32⟩),
   StableHlo.nullary main_call0_call0_call0_c_28 (constantI S_ 32 15#32),
   StableHlo.unary main_call0_call0_call0_c_28 main_call0_call0_call0_v111 ((broadcastInDim S512x18 ![] bcast_S_S512x18) : C F ⟨S_, .i32⟩ → C F ⟨S512x18, .i32⟩),
   StableHlo.binary main_call0_call0_call0_v107 main_call0_call0_call0_v111 main_call0_call0_call0_v112 (Host.shrui : C F ⟨S512x18, .i32⟩ → C F ⟨S512x18, .i32⟩ → C F ⟨S512x18, .i32⟩),
   StableHlo.binary main_call0_call0_call0_v110 main_call0_call0_call0_v112 main_call0_call0_call0_v113 (ori : C F ⟨S512x18, .i32⟩ → C F ⟨S512x18, .i32⟩ → C F ⟨S512x18, .i32⟩),
   StableHlo.binary main_call0_call0_call0_v108 main_call0_call0_call0_v113 main_call0_call0_call0_v114 (xori : C F ⟨S512x18, .i32⟩ → C F ⟨S512x18, .i32⟩ → C F ⟨S512x18, .i32⟩),
   StableHlo.binary main_call0_call0_call0_v108 main_call0_call0_call0_v114 main_call0_call0_call0_v115 (addi : C F ⟨S512x18, .i32⟩ → C F ⟨S512x18, .i32⟩ → C F ⟨S512x18, .i32⟩),
   StableHlo.nullary main_call0_call0_call0_c_29 (constantI S_ 32 29#32),
   StableHlo.unary main_call0_call0_call0_c_29 main_call0_call0_call0_v116 ((broadcastInDim S512x18 ![] bcast_S_S512x18) : C F ⟨S_, .i32⟩ → C F ⟨S512x18, .i32⟩),
   StableHlo.binary main_call0_call0_call0_v114 main_call0_call0_call0_v116 main_call0_call0_call0_v117 (Host.shli : C F ⟨S512x18, .i32⟩ → C F ⟨S512x18, .i32⟩ → C F ⟨S512x18, .i32⟩),
   StableHlo.nullary main_call0_call0_call0_c_30 (constantI S_ 32 3#32),
   StableHlo.unary main_call0_call0_call0_c_30 main_call0_call0_call0_v118 ((broadcastInDim S512x18 ![] bcast_S_S512x18) : C F ⟨S_, .i32⟩ → C F ⟨S512x18, .i32⟩),
   StableHlo.binary main_call0_call0_call0_v114 main_call0_call0_call0_v118 main_call0_call0_call0_v119 (Host.shrui : C F ⟨S512x18, .i32⟩ → C F ⟨S512x18, .i32⟩ → C F ⟨S512x18, .i32⟩),
   StableHlo.binary main_call0_call0_call0_v117 main_call0_call0_call0_v119 main_call0_call0_call0_v120 (ori : C F ⟨S512x18, .i32⟩ → C F ⟨S512x18, .i32⟩ → C F ⟨S512x18, .i32⟩),
   StableHlo.binary main_call0_call0_call0_v115 main_call0_call0_call0_v120 main_call0_call0_call0_v121 (xori : C F ⟨S512x18, .i32⟩ → C F ⟨S512x18, .i32⟩ → C F ⟨S512x18, .i32⟩),
   StableHlo.binary main_call0_call0_call0_v115 main_call0_call0_call0_v121 main_call0_call0_call0_v122 (addi : C F ⟨S512x18, .i32⟩ → C F ⟨S512x18, .i32⟩ → C F ⟨S512x18, .i32⟩),
   StableHlo.nullary main_call0_call0_call0_c_31 (constantI S_ 32 16#32),
   StableHlo.unary main_call0_call0_call0_c_31 main_call0_call0_call0_v123 ((broadcastInDim S512x18 ![] bcast_S_S512x18) : C F ⟨S_, .i32⟩ → C F ⟨S512x18, .i32⟩),
   StableHlo.binary main_call0_call0_call0_v121 main_call0_call0_call0_v123 main_call0_call0_call0_v124 (Host.shli : C F ⟨S512x18, .i32⟩ → C F ⟨S512x18, .i32⟩ → C F ⟨S512x18, .i32⟩),
   StableHlo.nullary main_call0_call0_call0_c_32 (constantI S_ 32 16#32),
   StableHlo.unary main_call0_call0_call0_c_32 main_call0_call0_call0_v125 ((broadcastInDim S512x18 ![] bcast_S_S512x18) : C F ⟨S_, .i32⟩ → C F ⟨S512x18, .i32⟩),
   StableHlo.binary main_call0_call0_call0_v121 main_call0_call0_call0_v125 main_call0_call0_call0_v126 (Host.shrui : C F ⟨S512x18, .i32⟩ → C F ⟨S512x18, .i32⟩ → C F ⟨S512x18, .i32⟩),
   StableHlo.binary main_call0_call0_call0_v124 main_call0_call0_call0_v126 main_call0_call0_call0_v127 (ori : C F ⟨S512x18, .i32⟩ → C F ⟨S512x18, .i32⟩ → C F ⟨S512x18, .i32⟩),
   StableHlo.binary main_call0_call0_call0_v122 main_call0_call0_call0_v127 main_call0_call0_call0_v128 (xori : C F ⟨S512x18, .i32⟩ → C F ⟨S512x18, .i32⟩ → C F ⟨S512x18, .i32⟩),
   StableHlo.binary main_call0_call0_call0_v122 main_call0_call0_call0_v128 main_call0_call0_call0_v129 (addi : C F ⟨S512x18, .i32⟩ → C F ⟨S512x18, .i32⟩ → C F ⟨S512x18, .i32⟩),
   StableHlo.nullary main_call0_call0_call0_c_33 (constantI S_ 32 24#32),
   StableHlo.unary main_call0_call0_call0_c_33 main_call0_call0_call0_v130 ((broadcastInDim S512x18 ![] bcast_S_S512x18) : C F ⟨S_, .i32⟩ → C F ⟨S512x18, .i32⟩),
   StableHlo.binary main_call0_call0_call0_v128 main_call0_call0_call0_v130 main_call0_call0_call0_v131 (Host.shli : C F ⟨S512x18, .i32⟩ → C F ⟨S512x18, .i32⟩ → C F ⟨S512x18, .i32⟩),
   StableHlo.nullary main_call0_call0_call0_c_34 (constantI S_ 32 8#32),
   StableHlo.unary main_call0_call0_call0_c_34 main_call0_call0_call0_v132 ((broadcastInDim S512x18 ![] bcast_S_S512x18) : C F ⟨S_, .i32⟩ → C F ⟨S512x18, .i32⟩),
   StableHlo.binary main_call0_call0_call0_v128 main_call0_call0_call0_v132 main_call0_call0_call0_v133 (Host.shrui : C F ⟨S512x18, .i32⟩ → C F ⟨S512x18, .i32⟩ → C F ⟨S512x18, .i32⟩),
   StableHlo.binary main_call0_call0_call0_v131 main_call0_call0_call0_v133 main_call0_call0_call0_v134 (ori : C F ⟨S512x18, .i32⟩ → C F ⟨S512x18, .i32⟩ → C F ⟨S512x18, .i32⟩),
   StableHlo.binary main_call0_call0_call0_v129 main_call0_call0_call0_v134 main_call0_call0_call0_v135 (xori : C F ⟨S512x18, .i32⟩ → C F ⟨S512x18, .i32⟩ → C F ⟨S512x18, .i32⟩),
   StableHlo.unary main_call0_call0_v6 main_call0_call0_call0_v136 ((broadcastInDim S512x18 ![] bcast_S_S512x18) : C F ⟨S_, .i32⟩ → C F ⟨S512x18, .i32⟩),
   StableHlo.binary main_call0_call0_call0_v129 main_call0_call0_call0_v136 main_call0_call0_call0_v137 (addi : C F ⟨S512x18, .i32⟩ → C F ⟨S512x18, .i32⟩ → C F ⟨S512x18, .i32⟩),
   StableHlo.unary main_call0_call0_call0_v1 main_call0_call0_call0_v138 ((broadcastInDim S512x18 ![] bcast_S_S512x18) : C F ⟨S_, .i32⟩ → C F ⟨S512x18, .i32⟩),
   StableHlo.binary main_call0_call0_call0_v135 main_call0_call0_call0_v138 main_call0_call0_call0_v139 (addi : C F ⟨S512x18, .i32⟩ → C F ⟨S512x18, .i32⟩ → C F ⟨S512x18, .i32⟩),
   StableHlo.nullary main_call0_call0_call0_c_35 (constantI S_ 32 4#32),
   StableHlo.unary main_call0_call0_call0_c_35 main_call0_call0_call0_v140 ((broadcastInDim S512x18 ![] bcast_S_S512x18) : C F ⟨S_, .i32⟩ → C F ⟨S512x18, .i32⟩),
   StableHlo.binary main_call0_call0_call0_v139 main_call0_call0_call0_v140 main_call0_call0_call0_v141 (addi : C F ⟨S512x18, .i32⟩ → C F ⟨S512x18, .i32⟩ → C F ⟨S512x18, .i32⟩)]

abbrev opsG5 : List (HloOp τ sig (Elt F)) :=
  [StableHlo.binary main_call0_call0_call0_v137 main_call0_call0_call0_v141 main_call0_call0_call0_v142 (addi : C F ⟨S512x18, .i32⟩ → C F ⟨S512x18, .i32⟩ → C F ⟨S512x18, .i32⟩),
   StableHlo.nullary main_call0_call0_call0_c_36 (constantI S_ 32 13#32),
   StableHlo.unary main_call0_call0_call0_c_36 main_call0_call0_call0_v143 ((broadcastInDim S512x18 ![] bcast_S_S512x18) : C F ⟨S_, .i32⟩ → C F ⟨S512x18, .i32⟩),
   StableHlo.binary main_call0_call0_call0_v141 main_call0_call0_call0_v143 main_call0_call0_call0_v144 (Host.shli : C F ⟨S512x18, .i32⟩ → C F ⟨S512x18, .i32⟩ → C F ⟨S512x18, .i32⟩),
   StableHlo.nullary main_call0_call0_call0_c_37 (constantI S_ 32 19#32),
   StableHlo.unary main_call0_call0_call0_c_37 main_call0_call0_call0_v145 ((broadcastInDim S512x18 ![] bcast_S_S512x18) : C F ⟨S_, .i32⟩ → C F ⟨S512x18, .i32⟩),
   StableHlo.binary main_call0_call0_call0_v141 main_call0_call0_call0_v145 main_call0_call0_call0_v146 (Host.shrui : C F ⟨S512x18, .i32⟩ → C F ⟨S512x18, .i32⟩ → C F ⟨S512x18, .i32⟩),
   StableHlo.binary main_call0_call0_call0_v144 main_call0_call0_call0_v146 main_call0_call0_call0_v147 (ori : C F ⟨S512x18, .i32⟩ → C F ⟨S512x18, .i32⟩ → C F ⟨S512x18, .i32⟩),
   StableHlo.binary main_call0_call0_call0_v142 main_call0_call0_call0_v147 main_call0_call0_call0_v148 (xori : C F ⟨S512x18, .i32⟩ → C F ⟨S512x18, .i32⟩ → C F ⟨S512x18, .i32⟩),
   StableHlo.binary main_call0_call0_call0_v142 main_call0_call0_call0_v148 main_call0_call0_call0_v149 (addi : C F ⟨S512x18, .i32⟩ → C F ⟨S512x18, .i32⟩ → C F ⟨S512x18, .i32⟩),
   StableHlo.nullary main_call0_call0_call0_c_38 (constantI S_ 32 15#32),
   StableHlo.unary main_call0_call0_call0_c_38 main_call0_call0_call0_v150 ((broadcastInDim S512x18 ![] bcast_S_S512x18) : C F ⟨S_, .i32⟩ → C F ⟨S512x18, .i32⟩),
   StableHlo.binary main_call0_call0_call0_v148 main_call0_call0_call0_v150 main_call0_call0_call0_v151 (Host.shli : C F ⟨S512x18, .i32⟩ → C F ⟨S512x18, .i32⟩ → C F ⟨S512x18, .i32⟩),
   StableHlo.nullary main_call0_call0_call0_c_39 (constantI S_ 32 17#32),
   StableHlo.unary main_call0_call0_call0_c_39 main_call0_call0_call0_v152 ((broadcastInDim S512x18 ![] bcast_S_S512x18) : C F ⟨S_, .i32⟩ → C F ⟨S512x18, .i32⟩),
   StableHlo.binary main_call0_call0_call0_v148 main_call0_call0_call0_v152 main_call0_call0_call0_v153 (Host.shrui : C F ⟨S512x18, .i32⟩ → C F ⟨S512x18, .i32⟩ → C F ⟨S512x18, .i32⟩),
   StableHlo.binary main_call0_call0_call0_v151 main_call0_call0_call0_v153 main_call0_call0_call0_v154 (ori : C F ⟨S512x18, .i32⟩ → C F ⟨S512x18, .i32⟩ → C F ⟨S512x18, .i32⟩),
   StableHlo.binary main_call0_call0_call0_v149 main_call0_call0_call0_v154 main_call0_call0_call0_v155 (xori : C F ⟨S512x18, .i32⟩ → C F ⟨S512x18, .i32⟩ → C F ⟨S512x18, .i32⟩),
   StableHlo.binary main_call0_call0_call0_v149 main_call0_call0_call0_v155 main_call0_call0_call0_v156 (addi : C F ⟨S512x18, .i32⟩ → C F ⟨S512x18, .i32⟩ → C F ⟨S512x18, .i32⟩),
   StableHlo.nullary main_call0_call0_call0_c_40 (constantI S_ 32 26#32),
   StableHlo.unary main_call0_call0_call0_c_40 main_call0_call0_call0_v157 ((broadcastInDim S512x18 ![] bcast_S_S512x18) : C F ⟨S_, .i32⟩ → C F ⟨S512x18, .i32⟩),
   StableHlo.binary main_call0_call0_call0_v155 main_call0_call0_call0_v157 main_call0_call0_call0_v158 (Host.shli : C F ⟨S512x18, .i32⟩ → C F ⟨S512x18, .i32⟩ → C F ⟨S512x18, .i32⟩),
   StableHlo.nullary main_call0_call0_call0_c_41 (constantI S_ 32 6#32),
   StableHlo.unary main_call0_call0_call0_c_41 main_call0_call0_call0_v159 ((broadcastInDim S512x18 ![] bcast_S_S512x18) : C F ⟨S_, .i32⟩ → C F ⟨S512x18, .i32⟩),
   StableHlo.binary main_call0_call0_call0_v155 main_call0_call0_call0_v159 main_call0_call0_call0_v160 (Host.shrui : C F ⟨S512x18, .i32⟩ → C F ⟨S512x18, .i32⟩ → C F ⟨S512x18, .i32⟩),
   StableHlo.binary main_call0_call0_call0_v158 main_call0_call0_call0_v160 main_call0_call0_call0_v161 (ori : C F ⟨S512x18, .i32⟩ → C F ⟨S512x18, .i32⟩ → C F ⟨S512x18, .i32⟩),
   StableHlo.binary main_call0_call0_call0_v156 main_call0_call0_call0_v161 main_call0_call0_call0_v162 (xori : C F ⟨S512x18, .i32⟩ → C F ⟨S512x18, .i32⟩ → C F ⟨S512x18, .i32⟩),
   StableHlo.binary main_call0_call0_call0_v156 main_call0_call0_call0_v162 main_call0_call0_call0_v163 (addi : C F ⟨S512x18, .i32⟩ → C F ⟨S512x18, .i32⟩ → C F ⟨S512x18, .i32⟩),
   StableHlo.nullary main_call0_call0_call0_c_42 (constantI S_ 32 6#32),
   StableHlo.unary main_call0_call0_call0_c_42 main_call0_call0_call0_v164 ((broadcastInDim S512x18 ![] bcast_S_S512x18) : C F ⟨S_, .i32⟩ → C F ⟨S512x18, .i32⟩),
   StableHlo.binary main_call0_call0_call0_v162 main_call0_call0_call0_v164 main_call0_call0_call0_v165 (Host.shli : C F ⟨S512x18, .i32⟩ → C F ⟨S512x18, .i32⟩ → C F ⟨S512x18, .i32⟩),
   StableHlo.nullary main_call0_call0_call0_c_43 (constantI S_ 32 26#32),
   StableHlo.unary main_call0_call0_call0_c_43 main_call0_call0_call0_v166 ((broadcastInDim S512x18 ![] bcast_S_S512x18) : C F ⟨S_, .i32⟩ → C F ⟨S512x18, .i32⟩),
   StableHlo.binary main_call0_call0_call0_v162 main_call0_call0_call0_v166 main_call0_call0_call0_v167 (Host.shrui : C F ⟨S512x18, .i32⟩ → C F ⟨S512x18, .i32⟩ → C F ⟨S512x18, .i32⟩),
   StableHlo.binary main_call0_call0_call0_v165 main_call0_call0_call0_v167 main_call0_call0_call0_v168 (ori : C F ⟨S512x18, .i32⟩ → C F ⟨S512x18, .i32⟩ → C F ⟨S512x18, .i32⟩),
   StableHlo.binary main_call0_call0_call0_v163 main_call0_call0_call0_v168 main_call0_call0_call0_v169 (xori : C F ⟨S512x18, .i32⟩ → C F ⟨S512x18, .i32⟩ → C F ⟨S512x18, .i32⟩),
   StableHlo.unary main_call0_call0_call0_v1 main_call0_call0_call0_v170 ((broadcastInDim S512x18 ![] bcast_S_S512x18) : C F ⟨S_, .i32⟩ → C F ⟨S512x18, .i32⟩),
   StableHlo.binary main_call0_call0_call0_v163 main_call0_call0_call0_v170 main_call0_call0_v18_0 (addi : C F ⟨S512x18, .i32⟩ → C F ⟨S512x18, .i32⟩ → C F ⟨S512x18, .i32⟩),
   StableHlo.unary main_call0_call0_v4 main_call0_call0_call0_v172 ((broadcastInDim S512x18 ![] bcast_S_S512x18) : C F ⟨S_, .i32⟩ → C F ⟨S512x18, .i32⟩),
   StableHlo.binary main_call0_call0_call0_v169 main_call0_call0_call0_v172 main_call0_call0_call0_v173 (addi : C F ⟨S512x18, .i32⟩ → C F ⟨S512x18, .i32⟩ → C F ⟨S512x18, .i32⟩),
   StableHlo.nullary main_call0_call0_call0_c_44 (constantI S_ 32 5#32),
   StableHlo.unary main_call0_call0_call0_c_44 main_call0_call0_call0_v174 ((broadcastInDim S512x18 ![] bcast_S_S512x18) : C F ⟨S_, .i32⟩ → C F ⟨S512x18, .i32⟩),
   StableHlo.binary main_call0_call0_call0_v173 main_call0_call0_call0_v174 main_call0_call0_v18_1 (addi : C F ⟨S512x18, .i32⟩ → C F ⟨S512x18, .i32⟩ → C F ⟨S512x18, .i32⟩)]

abbrev opsTail : List (HloOp τ sig (Elt F)) :=
  [StableHlo.binary main_call0_call0_v18_0 main_call0_call0_v18_1 main_call0_call0_v19 (xori : C F ⟨S512x18, .i32⟩ → C F ⟨S512x18, .i32⟩ → C F ⟨S512x18, .i32⟩),
   StableHlo.nullary main_call0_call0_c_2 (constantI S_ 32 9#32),
   StableHlo.unary main_call0_call0_c_2 main_call0_call0_v20 ((broadcastInDim S512x18 ![] bcast_S_S512x18) : C F ⟨S_, .i32⟩ → C F ⟨S512x18, .i32⟩),
   StableHlo.binary main_call0_call0_v19 main_call0_call0_v20 main_call0_call0_v21 (Host.shrui : C F ⟨S512x18, .i32⟩ → C F ⟨S512x18, .i32⟩ → C F ⟨S512x18, .i32⟩),
   StableHlo.nullary main_call0_call0_c_3 (constantI S_ 32 1065353216#32),
   StableHlo.unary main_call0_call0_c_3 main_call0_call0_v22 ((broadcastInDim S512x18 ![] bcast_S_S512x18) : C F ⟨S_, .i32⟩ → C F ⟨S512x18, .i32⟩),
   StableHlo.binary main_call0_call0_v21 main_call0_call0_v22 main_call0_call0_v23 (ori : C F ⟨S512x18, .i32⟩ → C F ⟨S512x18, .i32⟩ → C F ⟨S512x18, .i32⟩),
   StableHlo.unary main_call0_call0_v23 main_call0_call0_v24 ((bitcastToFloat .f32) : C F ⟨S512x18, .i32⟩ → C F ⟨S512x18, .f32⟩),
   StableHlo.nullary main_call0_call0_cst (constant S_ .f32 0x3F800000#32),
   StableHlo.unary main_call0_call0_cst main_call0_call0_v25 ((broadcastInDim S512x18 ![] bcast_S_S512x18) : C F ⟨S_, .f32⟩ → C F ⟨S512x18, .f32⟩),
   StableHlo.binary main_call0_call0_v24 main_call0_call0_v25 main_call0_call0_v26 (subf : C F ⟨S512x18, .f32⟩ → C F ⟨S512x18, .f32⟩ → C F ⟨S512x18, .f32⟩),
   StableHlo.binary main_call0_call0_v2 main_call0_call0_v1 main_call0_call0_v27 (subf : C F ⟨S1x1, .f32⟩ → C F ⟨S1x1, .f32⟩ → C F ⟨S1x1, .f32⟩),
   StableHlo.unary main_call0_call0_v27 main_call0_call0_v28 ((broadcastInDim S512x18 ![0, 1] bcast_S1x1_S512x18_0_1) : C F ⟨S1x1, .f32⟩ → C F ⟨S512x18, .f32⟩),
   StableHlo.binary main_call0_call0_v26 main_call0_call0_v28 main_call0_call0_v29 (mulf : C F ⟨S512x18, .f32⟩ → C F ⟨S512x18, .f32⟩ → C F ⟨S512x18, .f32⟩),
   StableHlo.unary main_call0_call0_v1 main_call0_call0_v30 ((broadcastInDim S512x18 ![0, 1] bcast_S1x1_S512x18_0_1) : C F ⟨S1x1, .f32⟩ → C F ⟨S512x18, .f32⟩),
   StableHlo.binary main_call0_call0_v29 main_call0_call0_v30 main_call0_call0_v31 (addf : C F ⟨S512x18, .f32⟩ → C F ⟨S512x18, .f32⟩ → C F ⟨S512x18, .f32⟩),
   StableHlo.unary main_call0_call0_v1 main_call0_call0_v32 ((broadcastInDim S512x18 ![0, 1] bcast_S1x1_S512x18_0_1) : C F ⟨S1x1, .f32⟩ → C F ⟨S512x18, .f32⟩),
   StableHlo.binary main_call0_call0_v32 main_call0_call0_v31 main_call0_v0 (maximumf : C F ⟨S512x18, .f32⟩ → C F ⟨S512x18, .f32⟩ → C F ⟨S512x18, .f32⟩),
   StableHlo.unary main_call0_v0 main_call0_v1 (Host.log : C F ⟨S512x18, .f32⟩ → C F ⟨S512x18, .f32⟩),
   StableHlo.unary main_call0_v1 main_call0_v2 (Host.negf : C F ⟨S512x18, .f32⟩ → C F ⟨S512x18, .f32⟩),
   StableHlo.unary main_call0_v2 main_call0_v3 (Host.log : C F ⟨S512x18, .f32⟩ → C F ⟨S512x18, .f32⟩),
   StableHlo.unary main_call0_v3 main_v27 (Host.negf : C F ⟨S512x18, .f32⟩ → C F ⟨S512x18, .f32⟩),
   StableHlo.binary main_v27 main_v26 main_v28 (addf : C F ⟨S512x18, .f32⟩ → C F ⟨S512x18, .f32⟩ → C F ⟨S512x18, .f32⟩),
   StableHlo.nullary main_call1_v0 (iotaInDim S512x18 32 1),
   StableHlo.nullary main_call1_cst (constant S_ .f32 0xFF800000#32),
   StableHlo.nullary main_call1_c (constantI S_ 32 0#32),
   StableHlo.quaternary main_v28 main_call1_v0 main_call1_cst main_call1_c main_call1_v1_0 ((fun x y u v j => (Host.argReduce reducer_argmax_f32_i32 x y u v reducesTo_S512x18_S512_d1 h_S_ j).1) : C F ⟨S512x18, .f32⟩ → C F ⟨S512x18, .i32⟩ → C F ⟨S_, .f32⟩ → C F ⟨S_, .i32⟩ → C F ⟨S512, .f32⟩),
   StableHlo.quaternary main_v28 main_call1_v0 main_call1_cst main_call1_c main_v29 ((fun x y u v j => (Host.argReduce reducer_argmax_f32_i32 x y u v reducesTo_S512x18_S512_d1 h_S_ j).2) : C F ⟨S512x18, .f32⟩ → C F ⟨S512x18, .i32⟩ → C F ⟨S_, .f32⟩ → C F ⟨S_, .i32⟩ → C F ⟨S512, .i32⟩),
   StableHlo.reshape main_v29 main_v30 (rfl : (.i32 : EltTy) = .i32) shapeCasts_S512_S16x32,
   StableHlo.reshape main_v3 main_v31 (rfl : (.f32 : EltTy) = .f32) shapeCasts_S512x18_S16x32x18]

/-- All of them. -/
abbrev ops : List (HloOp τ sig (Elt F)) :=
  opsHead ++ (opsCount ++ (opsKey ++ (opsG1 ++ (opsG2 ++ (opsG3 ++ (opsG4 ++ (opsG5 ++ opsTail)))))))

end Cert.Proof.Ref

end
-- ==== Proof.RefRun.lean ====
/-
  The reference's run: its `@main` is the line of operations `ops`, and its frame.
-/
module

public import proofs.«01_k».proof.Proof.RefOps
public import Idealize.ShloMosaic.Lib.Quiescent
public import Idealize.ShloMosaic.Lib.StableHlo.RunHlo
public import Idealize.ShloMosaic.Adequacy

@[expose] public section

noncomputable section

namespace Cert.Proof.Ref

open Idealize.ShloMosaic Idealize.SL.Sem Cert.ReferenceIdeal

variable {F : FTy → Type} [FloatOps F] [Facts]

set_option maxHeartbeats 4000000 in
set_option maxRecDepth 100000 in
theorem main_seq (d : Dev nD) : StableHlo.IsSeq (main (F := F) d) ops := by
  simp only [ops, opsHead, opsCount, opsKey, opsG1, opsG2, opsG3, opsG4, opsG5, opsTail, List.cons_append, List.nil_append]
  hlo_seq

/-! ## What each phase writes -/

abbrev wHead : List (Ref sig .tc) :=
  [main_cst, main_v0, main_v1, main_v2, main_v3, main_cst_0, main_v4, main_v5, main_cst_1, main_v6, main_cst_2, main_v7, main_v8, main_v9,
   main_v10, main_v11, main_v12, main_cst_3, main_v13, main_v14, main_v15, main_v16, main_c, main_c_4, main_v17, main_v18, main_v19,
   main_c_5, main_v20, main_v21, main_v22, main_v23, main_cst_6, main_v24, main_v25, main_v26]

theorem writesHead : (opsHead (F := F)).Forall fun op => op.writes ⊆ (wHead.map (Proc.devRef (τ := τ) .tc)).toFinset :=
  StableHlo.forall_writes_sub_of_map rfl

theorem keepHead (V : Valuation τ sig (Elt F)) (r : Ref sig .tc) (h : r ∉ wHead) :
    StableHlo.after (opsHead (F := F)) V (Proc.devRef .tc r) = V (Proc.devRef .tc r) :=
  StableHlo.after_of_writes_sub _ V writesHead h

theorem freshHead : (opsHead (F := F)).Forall fun op => op.fresh = ∅ :=
  StableHlo.forall_fresh_of_map rfl

theorem bufsHead : (opsHead (F := F)).Forall fun op => op.bufs ⊆ StableHlo.tcRefs τ sig := by
  simp

abbrev wCount : List (Ref sig .tc) :=
  [main_call0_cst, main_call0_cst_0, main_call0_call0_v0, main_call0_call0_v1, main_call0_call0_v2, main_call0_call0_v3,
   main_call0_call0_v4, main_call0_call0_v5, main_call0_call0_v6, main_call0_call0_v7, main_call0_call0_v8, main_call0_call0_c,
   main_call0_call0_v9, main_call0_call0_v10, main_call0_call0_c_0, main_call0_call0_v11, main_call0_call0_v12, main_call0_call0_v13,
   main_call0_call0_c_1, main_call0_call0_v14, main_call0_call0_v15, main_call0_call0_v16, main_call0_call0_v17]

theorem writesCount : (opsCount (F := F)).Forall fun op => op.writes ⊆ (wCount.map (Proc.devRef (τ := τ) .tc)).toFinset :=
  StableHlo.forall_writes_sub_of_map rfl

theorem keepCount (V : Valuation τ sig (Elt F)) (r : Ref sig .tc) (h : r ∉ wCount) :
    StableHlo.after (opsCount (F := F)) V (Proc.devRef .tc r) = V (Proc.devRef .tc r) :=
  StableHlo.after_of_writes_sub _ V writesCount h

theorem freshCount : (opsCount (F := F)).Forall fun op => op.fresh = ∅ :=
  StableHlo.forall_fresh_of_map rfl

theorem bufsCount : (opsCount (F := F)).Forall fun op => op.bufs ⊆ StableHlo.tcRefs τ sig := by
  simp

abbrev wKey : List (Ref sig .tc) :=
  [main_call0_call0_call0_v0, main_call0_call0_call0_c, main_call0_call0_call0_v1, main_call0_call0_call0_v2, main_call0_call0_call0_v3,
   main_call0_call0_call0_v4, main_call0_call0_call0_v5]

theorem writesKey : (opsKey (F := F)).Forall fun op => op.writes ⊆ (wKey.map (Proc.devRef (τ := τ) .tc)).toFinset :=
  StableHlo.forall_writes_sub_of_map rfl

theorem keepKey (V : Valuation τ sig (Elt F)) (r : Ref sig .tc) (h : r ∉ wKey) :
    StableHlo.after (opsKey (F := F)) V (Proc.devRef .tc r) = V (Proc.devRef .tc r) :=
  StableHlo.after_of_writes_sub _ V writesKey h

theorem freshKey : (opsKey (F := F)).Forall fun op => op.fresh = ∅ :=
  StableHlo.forall_fresh_of_map rfl

theorem bufsKey : (opsKey (F := F)).Forall fun op => op.bufs ⊆ StableHlo.tcRefs τ sig := by
  simp

abbrev wG1 : List (Ref sig .tc) :=
  [main_call0_call0_call0_v6, main_call0_call0_call0_c_0, main_call0_call0_call0_v7, main_call0_call0_call0_v8, main_call0_call0_call0_c_1,
   main_call0_call0_call0_v9, main_call0_call0_call0_v10, main_call0_call0_call0_v11, main_call0_call0_call0_v12,
   main_call0_call0_call0_v13, main_call0_call0_call0_c_2, main_call0_call0_call0_v14, main_call0_call0_call0_v15,
   main_call0_call0_call0_c_3, main_call0_call0_call0_v16, main_call0_call0_call0_v17, main_call0_call0_call0_v18,
   main_call0_call0_call0_v19, main_call0_call0_call0_v20, main_call0_call0_call0_c_4, main_call0_call0_call0_v21,
   main_call0_call0_call0_v22, main_call0_call0_call0_c_5, main_call0_call0_call0_v23, main_call0_call0_call0_v24,
   main_call0_call0_call0_v25, main_call0_call0_call0_v26, main_call0_call0_call0_v27, main_call0_call0_call0_c_6,
   main_call0_call0_call0_v28, main_call0_call0_call0_v29, main_call0_call0_call0_c_7, main_call0_call0_call0_v30,
   main_call0_call0_call0_v31, main_call0_call0_call0_v32, main_call0_call0_call0_v33, main_call0_call0_call0_v34,
   main_call0_call0_call0_v35, main_call0_call0_call0_v36, main_call0_call0_call0_v37, main_call0_call0_call0_c_8,
   main_call0_call0_call0_v38, main_call0_call0_call0_v39]

theorem writesG1 : (opsG1 (F := F)).Forall fun op => op.writes ⊆ (wG1.map (Proc.devRef (τ := τ) .tc)).toFinset :=
  StableHlo.forall_writes_sub_of_map rfl

theorem keepG1 (V : Valuation τ sig (Elt F)) (r : Ref sig .tc) (h : r ∉ wG1) :
    StableHlo.after (opsG1 (F := F)) V (Proc.devRef .tc r) = V (Proc.devRef .tc r) :=
  StableHlo.after_of_writes_sub _ V writesG1 h

theorem freshG1 : (opsG1 (F := F)).Forall fun op => op.fresh = ∅ :=
  StableHlo.forall_fresh_of_map rfl

theorem bufsG1 : (opsG1 (F := F)).Forall fun op => op.bufs ⊆ StableHlo.tcRefs τ sig := by
  simp

abbrev wG2 : List (Ref sig .tc) :=
  [main_call0_call0_call0_v40, main_call0_call0_call0_c_9, main_call0_call0_call0_v41, main_call0_call0_call0_v42,
   main_call0_call0_call0_c_10, main_call0_call0_call0_v43, main_call0_call0_call0_v44, main_call0_call0_call0_v45,
   main_call0_call0_call0_v46, main_call0_call0_call0_v47, main_call0_call0_call0_c_11, main_call0_call0_call0_v48,
   main_call0_call0_call0_v49, main_call0_call0_call0_c_12, main_call0_call0_call0_v50, main_call0_call0_call0_v51,
   main_call0_call0_call0_v52, main_call0_call0_call0_v53, main_call0_call0_call0_v54, main_call0_call0_call0_c_13,
   main_call0_call0_call0_v55, main_call0_call0_call0_v56, main_call0_call0_call0_c_14, main_call0_call0_call0_v57,
   main_call0_call0_call0_v58, main_call0_call0_call0_v59, main_call0_call0_call0_v60, main_call0_call0_call0_v61,
   main_call0_call0_call0_c_15, main_call0_call0_call0_v62, main_call0_call0_call0_v63, main_call0_call0_call0_c_16,
   main_call0_call0_call0_v64, main_call0_call0_call0_v65, main_call0_call0_call0_v66, main_call0_call0_call0_v67,
   main_call0_call0_call0_v68, main_call0_call0_call0_v69, main_call0_call0_call0_v70, main_call0_call0_call0_v71,
   main_call0_call0_call0_c_17, main_call0_call0_call0_v72, main_call0_call0_call0_v73]

theorem writesG2 : (opsG2 (F := F)).Forall fun op => op.writes ⊆ (wG2.map (Proc.devRef (τ := τ) .tc)).toFinset :=
  StableHlo.forall_writes_sub_of_map rfl

theorem keepG2 (V : Valuation τ sig (Elt F)) (r : Ref sig .tc) (h : r ∉ wG2) :
    StableHlo.after (opsG2 (F := F)) V (Proc.devRef .tc r) = V (Proc.devRef .tc r) :=
  StableHlo.after_of_writes_sub _ V writesG2 h

theorem freshG2 : (opsG2 (F := F)).Forall fun op => op.fresh = ∅ :=
  StableHlo.forall_fresh_of_map rfl

theorem bufsG2 : (opsG2 (F := F)).Forall fun op => op.bufs ⊆ StableHlo.tcRefs τ sig := by
  simp

abbrev wG3 : List (Ref sig .tc) :=
  [main_call0_call0_call0_v74, main_call0_call0_call0_c_18, main_call0_call0_call0_v75, main_call0_call0_call0_v76,
   main_call0_call0_call0_c_19, main_call0_call0_call0_v77, main_call0_call0_call0_v78, main_call0_call0_call0_v79,
   main_call0_call0_call0_v80, main_call0_call0_call0_v81, main_call0_call0_call0_c_20, main_call0_call0_call0_v82,
   main_call0_call0_call0_v83, main_call0_call0_call0_c_21, main_call0_call0_call0_v84, main_call0_call0_call0_v85,
   main_call0_call0_call0_v86, main_call0_call0_call0_v87, main_call0_call0_call0_v88, main_call0_call0_call0_c_22,
   main_call0_call0_call0_v89, main_call0_call0_call0_v90, main_call0_call0_call0_c_23, main_call0_call0_call0_v91,
   main_call0_call0_call0_v92, main_call0_call0_call0_v93, main_call0_call0_call0_v94, main_call0_call0_call0_v95,
   main_call0_call0_call0_c_24, main_call0_call0_call0_v96, main_call0_call0_call0_v97, main_call0_call0_call0_c_25,
   main_call0_call0_call0_v98, main_call0_call0_call0_v99, main_call0_call0_call0_v100, main_call0_call0_call0_v101,
   main_call0_call0_call0_v102, main_call0_call0_call0_v103, main_call0_call0_call0_v104, main_call0_call0_call0_v105,
   main_call0_call0_call0_c_26, main_call0_call0_call0_v106, main_call0_call0_call0_v107]

theorem writesG3 : (opsG3 (F := F)).Forall fun op => op.writes ⊆ (wG3.map (Proc.devRef (τ := τ) .tc)).toFinset :=
  StableHlo.forall_writes_sub_of_map rfl

theorem keepG3 (V : Valuation τ sig (Elt F)) (r : Ref sig .tc) (h : r ∉ wG3) :
    StableHlo.after (opsG3 (F := F)) V (Proc.devRef .tc r) = V (Proc.devRef .tc r) :=
  StableHlo.after_of_writes_sub _ V writesG3 h

theorem freshG3 : (opsG3 (F := F)).Forall fun op => op.fresh = ∅ :=
  StableHlo.forall_fresh_of_map rfl

theorem bufsG3 : (opsG3 (F := F)).Forall fun op => op.bufs ⊆ StableHlo.tcRefs τ sig := by
  simp

abbrev wG4 : List (Ref sig .tc) :=
  [main_call0_call0_call0_v108, main_call0_call0_call0_c_27, main_call0_call0_call0_v109, main_call0_call0_call0_v110,
   main_call0_call0_call0_c_28, main_call0_call0_call0_v111, main_call0_call0_call0_v112, main_call0_call0_call0_v113,
   main_call0_call0_call0_v114, main_call0_call0_call0_v115, main_call0_call0_call0_c_29, main_call0_call0_call0_v116,
   main_call0_call0_call0_v117, main_call0_call0_call0_c_30, main_call0_call0_call0_v118, main_call0_call0_call0_v119,
   main_call0_call0_call0_v120, main_call0_call0_call0_v121, main_call0_call0_call0_v122, main_call0_call0_call0_c_31,
   main_call0_call0_call0_v123, main_call0_call0_call0_v124, main_call0_call0_call0_c_32, main_call0_call0_call0_v125,
   main_call0_call0_call0_v126, main_call0_call0_call0_v127, main_call0_call0_call0_v128, main_call0_call0_call0_v129,
   main_call0_call0_call0_c_33, main_call0_call0_call0_v130, main_call0_call0_call0_v131, main_call0_call0_call0_c_34,
   main_call0_call0_call0_v132, main_call0_call0_call0_v133, main_call0_call0_call0_v134, main_call0_call0_call0_v135,
   main_call0_call0_call0_v136, main_call0_call0_call0_v137, main_call0_call0_call0_v138, main_call0_call0_call0_v139,
   main_call0_call0_call0_c_35, main_call0_call0_call0_v140, main_call0_call0_call0_v141]

theorem writesG4 : (opsG4 (F := F)).Forall fun op => op.writes ⊆ (wG4.map (Proc.devRef (τ := τ) .tc)).toFinset :=
  StableHlo.forall_writes_sub_of_map rfl

theorem keepG4 (V : Valuation τ sig (Elt F)) (r : Ref sig .tc) (h : r ∉ wG4) :
    StableHlo.after (opsG4 (F := F)) V (Proc.devRef .tc r) = V (Proc.devRef .tc r) :=
  StableHlo.after_of_writes_sub _ V writesG4 h

theorem freshG4 : (opsG4 (F := F)).Forall fun op => op.fresh = ∅ :=
  StableHlo.forall_fresh_of_map rfl

theorem bufsG4 : (opsG4 (F := F)).Forall fun op => op.bufs ⊆ StableHlo.tcRefs τ sig := by
  simp

abbrev wG5 : List (Ref sig .tc) :=
  [main_call0_call0_call0_v142, main_call0_call0_call0_c_36, main_call0_call0_call0_v143, main_call0_call0_call0_v144,
   main_call0_call0_call0_c_37, main_call0_call0_call0_v145, main_call0_call0_call0_v146, main_call0_call0_call0_v147,
   main_call0_call0_call0_v148, main_call0_call0_call0_v149, main_call0_call0_call0_c_38, main_call0_call0_call0_v150,
   main_call0_call0_call0_v151, main_call0_call0_call0_c_39, main_call0_call0_call0_v152, main_call0_call0_call0_v153,
   main_call0_call0_call0_v154, main_call0_call0_call0_v155, main_call0_call0_call0_v156, main_call0_call0_call0_c_40,
   main_call0_call0_call0_v157, main_call0_call0_call0_v158, main_call0_call0_call0_c_41, main_call0_call0_call0_v159,
   main_call0_call0_call0_v160, main_call0_call0_call0_v161, main_call0_call0_call0_v162, main_call0_call0_call0_v163,
   main_call0_call0_call0_c_42, main_call0_call0_call0_v164, main_call0_call0_call0_v165, main_call0_call0_call0_c_43,
   main_call0_call0_call0_v166, main_call0_call0_call0_v167, main_call0_call0_call0_v168, main_call0_call0_call0_v169,
   main_call0_call0_call0_v170, main_call0_call0_v18_0, main_call0_call0_call0_v172, main_call0_call0_call0_v173,
   main_call0_call0_call0_c_44, main_call0_call0_call0_v174, main_call0_call0_v18_1]

theorem writesG5 : (opsG5 (F := F)).Forall fun op => op.writes ⊆ (wG5.map (Proc.devRef (τ := τ) .tc)).toFinset :=
  StableHlo.forall_writes_sub_of_map rfl

theorem keepG5 (V : Valuation τ sig (Elt F)) (r : Ref sig .tc) (h : r ∉ wG5) :
    StableHlo.after (opsG5 (F := F)) V (Proc.devRef .tc r) = V (Proc.devRef .tc r) :=
  StableHlo.after_of_writes_sub _ V writesG5 h

theorem freshG5 : (opsG5 (F := F)).Forall fun op => op.fresh = ∅ :=
  StableHlo.forall_fresh_of_map rfl

theorem bufsG5 : (opsG5 (F := F)).Forall fun op => op.bufs ⊆ StableHlo.tcRefs τ sig := by
  simp

abbrev wTail : List (Ref sig .tc) :=
  [main_call0_call0_v19, main_call0_call0_c_2, main_call0_call0_v20, main_call0_call0_v21, main_call0_call0_c_3, main_call0_call0_v22,
   main_call0_call0_v23, main_call0_call0_v24, main_call0_call0_cst, main_call0_call0_v25, main_call0_call0_v26, main_call0_call0_v27,
   main_call0_call0_v28, main_call0_call0_v29, main_call0_call0_v30, main_call0_call0_v31, main_call0_call0_v32, main_call0_v0,
   main_call0_v1, main_call0_v2, main_call0_v3, main_v27, main_v28, main_call1_v0, main_call1_cst, main_call1_c, main_call1_v1_0, main_v29,
   main_v30, main_v31]

theorem writesTail : (opsTail (F := F)).Forall fun op => op.writes ⊆ (wTail.map (Proc.devRef (τ := τ) .tc)).toFinset :=
  StableHlo.forall_writes_sub_of_map rfl

theorem keepTail (V : Valuation τ sig (Elt F)) (r : Ref sig .tc) (h : r ∉ wTail) :
    StableHlo.after (opsTail (F := F)) V (Proc.devRef .tc r) = V (Proc.devRef .tc r) :=
  StableHlo.after_of_writes_sub _ V writesTail h

theorem freshTail : (opsTail (F := F)).Forall fun op => op.fresh = ∅ :=
  StableHlo.forall_fresh_of_map rfl

theorem bufsTail : (opsTail (F := F)).Forall fun op => op.bufs ⊆ StableHlo.tcRefs τ sig := by
  simp

/-! ## The run -/

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem forall_append {p : HloOp τ sig (Elt F) → Prop} {l₁ l₂ : List (HloOp τ sig (Elt F))} (h₁ : l₁.Forall p) (h₂ : l₂.Forall p) :
    (l₁ ++ l₂).Forall p :=
  List.forall_append.mpr ⟨h₁, h₂⟩

theorem bufs_ops : (ops (F := F)).Forall fun op => op.bufs ⊆ StableHlo.tcRefs τ sig :=
  forall_append bufsHead (forall_append bufsCount (forall_append bufsKey (forall_append bufsG1 (forall_append bufsG2 (forall_append bufsG3
    (forall_append bufsG4 (forall_append bufsG5 bufsTail)))))))

theorem fresh_ops : (ops (F := F)).Forall fun op => op.fresh = ∅ :=
  forall_append freshHead (forall_append freshCount (forall_append freshKey (forall_append freshG1 (forall_append freshG2 (forall_append freshG3
    (forall_append freshG4 (forall_append freshG5 freshTail)))))))

/-- The reference runs to what its operations compute. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  StableHlo.run_hlo _ _ main_seq (by decide) (by decide) bufs_ops (List.forall_iff_forall_mem.mp fresh_ops) m ρ

/-- A buffer no phase writes ends as it began. -/
theorem keep (V : Valuation τ sig (Elt F)) (r : Ref sig .tc)
    (h : r ∉ wHead ∧ r ∉ wCount ∧ r ∉ wKey ∧ r ∉ wG1 ∧ r ∉ wG2 ∧ r ∉ wG3 ∧ r ∉ wG4 ∧ r ∉ wG5 ∧ r ∉ wTail) :
    StableHlo.after (ops (F := F)) V (Proc.devRef .tc r) = V (Proc.devRef .tc r) := by
  obtain ⟨h1, h2, h3, h4, h5, h6, h7, h8, h9⟩ := h
  unfold ops
  rw [after_append, after_append, after_append, after_append, after_append, after_append, after_append, after_append,
    keepTail _ _ h9, keepG5 _ _ h8, keepG4 _ _ h7, keepG3 _ _ h6, keepG2 _ _ h5, keepG1 _ _ h4, keepKey _ _ h3, keepCount _ _ h2, keepHead _ _ h1]

/-- The reference's frame. -/
theorem frame : Cert.quiescent_ReferenceIdeal (hReferenceIdeal := Cert.ReferenceIdeal.Gen.facts) := by
  letI := Cert.ReferenceIdeal.Gen.facts
  intro m g _
  refine θ_run_mono (run (F := Ideal) m g) fun r h => ⟨fun c => ⟨?_, ?_, ?_⟩, sem_eq_zero_of_no_sems rfl _⟩
  · exact (h c main_arg0).trans (keep _ _ (by decide))
  · exact (h c main_arg1).trans (keep _ _ (by decide))
  · exact (h c main_arg2).trans (keep _ _ (by decide))

end Cert.Proof.Ref

end
-- ==== Proof.RefCipher.lean ====
/-
  The words of the reference's random bits: each phase of its cipher, over the contents before the phase.
-/
module

public import proofs.«01_k».proof.Proof.RefRun
public import proofs.«01_k».proof.Proof.Threefry
public import Idealize.ShloMosaic.Lib.Pointwise

@[expose] public section

noncomputable section

namespace Cert.Proof.Ref

open Idealize.ShloMosaic Idealize.SL.Sem Cert.ReferenceIdeal Cert.Proof.Threefry
open Facts₀ Facts

variable {F : FTy → Type} [FloatOps F] [Facts]

/-- Words over the array, and one word. -/
abbrev Words (F : FTy → Type) : Type := C F ⟨S512x18, .i32⟩
abbrev Word (F : FTy → Type) : Type := C F ⟨S_, .i32⟩

/-- A pair of words at each entry. -/
abbrev Pairs : Type := S512x18.Idx → BitVec 32 × BitVec 32

/-! ## The five groups of four rounds, each with its key injection -/

theorem valG1_fst (V : Valuation τ sig (Elt F)) (p : Pairs)
    (h0 : (V (Proc.devRef .tc main_call0_call0_call0_v3) : Words F) = fun i => (p i).1)
    (h1 : (V (Proc.devRef .tc main_call0_call0_call0_v5) : Words F) = fun i => (p i).2)
    (hk : (V (Proc.devRef .tc main_call0_call0_v6) : Word F) = fun _ => 123#32) :
    (StableHlo.after (opsG1 (F := F)) V (Proc.devRef .tc main_call0_call0_call0_v35) : Words F)
      = fun i => (inject 123#32 ks2 1#32 (roundsA (p i))).1 := by
  after_results_simp
  rw [h0, h1, hk]
  rfl

theorem valG1_snd (V : Valuation τ sig (Elt F)) (p : Pairs)
    (h0 : (V (Proc.devRef .tc main_call0_call0_call0_v3) : Words F) = fun i => (p i).1)
    (h1 : (V (Proc.devRef .tc main_call0_call0_call0_v5) : Words F) = fun i => (p i).2)
    (hk : (V (Proc.devRef .tc main_call0_call0_call0_v1) : Word F) = fun _ => ks2) :
    (StableHlo.after (opsG1 (F := F)) V (Proc.devRef .tc main_call0_call0_call0_v39) : Words F)
      = fun i => (inject 123#32 ks2 1#32 (roundsA (p i))).2 := by
  after_results_simp
  rw [h0, h1, hk]
  rfl

theorem valG2_fst (V : Valuation τ sig (Elt F)) (p : Pairs)
    (h0 : (V (Proc.devRef .tc main_call0_call0_call0_v35) : Words F) = fun i => (p i).1)
    (h1 : (V (Proc.devRef .tc main_call0_call0_call0_v39) : Words F) = fun i => (p i).2)
    (hk : (V (Proc.devRef .tc main_call0_call0_call0_v1) : Word F) = fun _ => ks2) :
    (StableHlo.after (opsG2 (F := F)) V (Proc.devRef .tc main_call0_call0_call0_v69) : Words F)
      = fun i => (inject ks2 0#32 2#32 (roundsB (p i))).1 := by
  after_results_simp
  rw [h0, h1, hk]
  rfl

theorem valG2_snd (V : Valuation τ sig (Elt F)) (p : Pairs)
    (h0 : (V (Proc.devRef .tc main_call0_call0_call0_v35) : Words F) = fun i => (p i).1)
    (h1 : (V (Proc.devRef .tc main_call0_call0_call0_v39) : Words F) = fun i => (p i).2)
    (hk : (V (Proc.devRef .tc main_call0_call0_v4) : Word F) = fun _ => 0#32) :
    (StableHlo.after (opsG2 (F := F)) V (Proc.devRef .tc main_call0_call0_call0_v73) : Words F)
      = fun i => (inject ks2 0#32 2#32 (roundsB (p i))).2 := by
  after_results_simp
  rw [h0, h1, hk]
  rfl

theorem valG3_fst (V : Valuation τ sig (Elt F)) (p : Pairs)
    (h0 : (V (Proc.devRef .tc main_call0_call0_call0_v69) : Words F) = fun i => (p i).1)
    (h1 : (V (Proc.devRef .tc main_call0_call0_call0_v73) : Words F) = fun i => (p i).2)
    (hk : (V (Proc.devRef .tc main_call0_call0_v4) : Word F) = fun _ => 0#32) :
    (StableHlo.after (opsG3 (F := F)) V (Proc.devRef .tc main_call0_call0_call0_v103) : Words F)
      = fun i => (inject 0#32 123#32 3#32 (roundsA (p i))).1 := by
  after_results_simp
  rw [h0, h1, hk]
  rfl

theorem valG3_snd (V : Valuation τ sig (Elt F)) (p : Pairs)
    (h0 : (V (Proc.devRef .tc main_call0_call0_call0_v69) : Words F) = fun i => (p i).1)
    (h1 : (V (Proc.devRef .tc main_call0_call0_call0_v73) : Words F) = fun i => (p i).2)
    (hk : (V (Proc.devRef .tc main_call0_call0_v6) : Word F) = fun _ => 123#32) :
    (StableHlo.after (opsG3 (F := F)) V (Proc.devRef .tc main_call0_call0_call0_v107) : Words F)
      = fun i => (inject 0#32 123#32 3#32 (roundsA (p i))).2 := by
  after_results_simp
  rw [h0, h1, hk]
  rfl

theorem valG4_fst (V : Valuation τ sig (Elt F)) (p : Pairs)
    (h0 : (V (Proc.devRef .tc main_call0_call0_call0_v103) : Words F) = fun i => (p i).1)
    (h1 : (V (Proc.devRef .tc main_call0_call0_call0_v107) : Words F) = fun i => (p i).2)
    (hk : (V (Proc.devRef .tc main_call0_call0_v6) : Word F) = fun _ => 123#32) :
    (StableHlo.after (opsG4 (F := F)) V (Proc.devRef .tc main_call0_call0_call0_v137) : Words F)
      = fun i => (inject 123#32 ks2 4#32 (roundsB (p i))).1 := by
  after_results_simp
  rw [h0, h1, hk]
  rfl

theorem valG4_snd (V : Valuation τ sig (Elt F)) (p : Pairs)
    (h0 : (V (Proc.devRef .tc main_call0_call0_call0_v103) : Words F) = fun i => (p i).1)
    (h1 : (V (Proc.devRef .tc main_call0_call0_call0_v107) : Words F) = fun i => (p i).2)
    (hk : (V (Proc.devRef .tc main_call0_call0_call0_v1) : Word F) = fun _ => ks2) :
    (StableHlo.after (opsG4 (F := F)) V (Proc.devRef .tc main_call0_call0_call0_v141) : Words F)
      = fun i => (inject 123#32 ks2 4#32 (roundsB (p i))).2 := by
  after_results_simp
  rw [h0, h1, hk]
  rfl

theorem valG5_fst (V : Valuation τ sig (Elt F)) (p : Pairs)
    (h0 : (V (Proc.devRef .tc main_call0_call0_call0_v137) : Words F) = fun i => (p i).1)
    (h1 : (V (Proc.devRef .tc main_call0_call0_call0_v141) : Words F) = fun i => (p i).2)
    (hk : (V (Proc.devRef .tc main_call0_call0_call0_v1) : Word F) = fun _ => ks2) :
    (StableHlo.after (opsG5 (F := F)) V (Proc.devRef .tc main_call0_call0_v18_0) : Words F)
      = fun i => (inject ks2 0#32 5#32 (roundsA (p i))).1 := by
  after_results_simp
  rw [h0, h1, hk]
  rfl

theorem valG5_snd (V : Valuation τ sig (Elt F)) (p : Pairs)
    (h0 : (V (Proc.devRef .tc main_call0_call0_call0_v137) : Words F) = fun i => (p i).1)
    (h1 : (V (Proc.devRef .tc main_call0_call0_call0_v141) : Words F) = fun i => (p i).2)
    (hk : (V (Proc.devRef .tc main_call0_call0_v4) : Word F) = fun _ => 0#32) :
    (StableHlo.after (opsG5 (F := F)) V (Proc.devRef .tc main_call0_call0_v18_1) : Words F)
      = fun i => (inject ks2 0#32 5#32 (roundsA (p i))).2 := by
  after_results_simp
  rw [h0, h1, hk]
  rfl

/-! ## The key and the counters -/

/-- The key as one array of two words. -/
abbrev key : C F ⟨S2, .i32⟩ :=
  concatenate S2 0 [⟨S1, (fun _ => 0#32 : C F ⟨S1, .i32⟩)⟩, ⟨S1, (fun _ => 123#32 : C F ⟨S1, .i32⟩)⟩] concatenates_S1_S1_S2_d0

theorem valKey_head (V : Valuation τ sig (Elt F)) :
    (StableHlo.after (opsHead (F := F)) V (Proc.devRef .tc main_v23) : C F ⟨S2, .i32⟩) = key (F := F) := by
  after_results_simp
  refine StableHlo.concatenate_congr _ _ ?_ _ _
  after_results_simp
  have h0 : broadcastInDim S1 ![] bcast_S_S1 (id (Host.shrui (constantI S_ 32 123#32) (constantI S_ 32 32#32))) = fun _ => 0#32 := by
    funext _
    show IntOp.shrui .host 123#32 32#32 = 0#32
    decide
  have h1 : broadcastInDim S1 ![] bcast_S_S1 (id (andi (constantI S_ 32 123#32) (constantI S_ 32 4294967295#32))) = fun _ => 123#32 := by
    funext _
    show 123#32 &&& 4294967295#32 = 123#32
    decide
  rw [h0, h1]

theorem key_at (j : S2.Idx) : key (F := F) j = if (j 0).val = 0 then 0#32 else 123#32 := by
  unfold key
  rw [concatenate_pair_apply]
  by_cases h : (j 0).val = 0
  · rw [if_pos h]
    exact dif_pos (show (j 0).val < 1 by omega)
  · rw [if_neg h]
    exact dif_neg (show ¬ (j 0).val < 1 by omega)

theorem valCount_key0 (V : Valuation τ sig (Elt F)) (h : (V (Proc.devRef .tc main_v23) : C F ⟨S2, .i32⟩) = key (F := F)) :
    (StableHlo.after (opsCount (F := F)) V (Proc.devRef .tc main_call0_call0_v4) : Word F) = fun _ => 0#32 := by
  after_results_simp
  rw [h]
  funext j
  unfold shapeCast extractStridedSlice
  rw [key_at]
  refine if_pos ?_
  show 0 + (Shape.reshapeEquiv shapeCasts_S1_S_ j 0).val = 0
  have := (Shape.reshapeEquiv shapeCasts_S1_S_ j 0).isLt
  change _ < 1 at this
  omega

theorem valCount_key1 (V : Valuation τ sig (Elt F)) (h : (V (Proc.devRef .tc main_v23) : C F ⟨S2, .i32⟩) = key (F := F)) :
    (StableHlo.after (opsCount (F := F)) V (Proc.devRef .tc main_call0_call0_v6) : Word F) = fun _ => 123#32 := by
  after_results_simp
  rw [h]
  funext j
  unfold shapeCast extractStridedSlice
  rw [key_at]
  refine if_neg ?_
  show ¬ 1 + _ = 0
  omega

/-- The entry's position, row by row. -/
def place (i : S512x18.Idx) : BitVec 32 := counter (BitVec.ofNat 32 (i 0)) (BitVec.ofNat 32 (i 1))

theorem word_lo (a b : ℕ) (ha : a < 512) (hb : b < 18) :
    (18#64 * BitVec.ofNat 64 a + 1#64 * BitVec.ofNat 64 b).setWidth 32 = BitVec.ofNat 32 a * 18#32 + BitVec.ofNat 32 b := by
  apply BitVec.eq_of_toNat_eq
  simp only [BitVec.toNat_setWidth, BitVec.toNat_add, BitVec.toNat_mul, BitVec.toNat_ofNat]
  omega

theorem word_hi (a b : ℕ) (ha : a < 512) (hb : b < 18) :
    ((18#64 * BitVec.ofNat 64 a + 1#64 * BitVec.ofNat 64 b) >>> 32#64).setWidth 32 = 0#32 := by
  apply BitVec.eq_of_toNat_eq
  simp only [BitVec.toNat_setWidth, BitVec.ushiftRight_eq', BitVec.toNat_ushiftRight, BitVec.toNat_add, BitVec.toNat_mul,
    BitVec.toNat_ofNat, Nat.shiftRight_eq_div_pow]
  norm_num
  rw [Nat.mod_eq_of_lt (show 18 * a + b < 18446744073709551616 by omega), Nat.div_eq_of_lt (show 18 * a + b < 4294967296 by omega)]

theorem valCount_lo (V : Valuation τ sig (Elt F)) :
    (StableHlo.after (opsCount (F := F)) V (Proc.devRef .tc main_call0_call0_v16) : Words F) = place := by
  after_results_simp
  funext i
  exact word_lo (i 0).val (i 1).val (i 0).isLt (i 1).isLt

theorem valCount_hi (V : Valuation τ sig (Elt F)) :
    (StableHlo.after (opsCount (F := F)) V (Proc.devRef .tc main_call0_call0_v17) : Words F) = fun _ => 0#32 := by
  after_results_simp
  funext i
  exact word_hi (i 0).val (i 1).val (i 0).isLt (i 1).isLt

theorem valKey_third (V : Valuation τ sig (Elt F))
    (h0 : (V (Proc.devRef .tc main_call0_call0_v4) : Word F) = fun _ => 0#32) (h1 : (V (Proc.devRef .tc main_call0_call0_v6) : Word F) = fun _ => 123#32) :
    (StableHlo.after (opsKey (F := F)) V (Proc.devRef .tc main_call0_call0_call0_v1) : Word F) = fun _ => ks2 := by
  after_results_simp
  rw [h0, h1]
  funext _
  show (0#32 ^^^ 123#32) ^^^ 466688986#32 = 466688929#32
  decide

theorem valKey_fst (V : Valuation τ sig (Elt F)) (h0 : (V (Proc.devRef .tc main_call0_call0_v4) : Word F) = fun _ => 0#32)
    (hx : (V (Proc.devRef .tc main_call0_call0_v17) : Words F) = fun _ => 0#32) :
    (StableHlo.after (opsKey (F := F)) V (Proc.devRef .tc main_call0_call0_call0_v3) : Words F) = fun _ => 0#32 + 0#32 := by
  after_results_simp
  rw [h0, hx]
  rfl

theorem valKey_snd (V : Valuation τ sig (Elt F)) (h1 : (V (Proc.devRef .tc main_call0_call0_v6) : Word F) = fun _ => 123#32)
    (hx : (V (Proc.devRef .tc main_call0_call0_v16) : Words F) = place) :
    (StableHlo.after (opsKey (F := F)) V (Proc.devRef .tc main_call0_call0_call0_v5) : Words F) = fun i => place i + 123#32 := by
  after_results_simp
  rw [h1, hx]
  rfl

end Cert.Proof.Ref
-- ==== Proof.Noise.lean ====
/-
  The noise of the reference over the extended reals. It is a strictly increasing function of the 23-bit draw: so the largest noise is the
  largest draw.
-/
module

public import Idealize.ShloMosaic.PureOps
public import Idealize.ShloMosaic.PureOps.Ideal
public import Mathlib.Analysis.SpecialFunctions.Log.Basic
public import proofs.«01_k».proof.Proof.Threefry

@[expose] public section

noncomputable section

namespace Cert.Proof.Noise

open Idealize.ShloMosaic Cert.Proof.Threefry

/-- The smallest positive normal number, 2⁻¹²⁶. -/
def tiny : ℝ := (2 : ℝ) ^ (-126 : ℤ)

theorem tiny_pos : 0 < tiny := by unfold tiny; positivity
theorem tiny_lt : tiny < 1 / 4 := by unfold tiny; norm_num

/-- The uniform value of a draw: in the open unit interval. -/
def unif (n : ℕ) : ℝ := n * (2 : ℝ) ^ (-23 : ℤ) * (1 - tiny) + tiny

theorem unif_pos (n : ℕ) : 0 < unif n := by
  have := tiny_pos
  have := tiny_lt
  unfold unif
  have : 0 ≤ (n : ℝ) * (2 : ℝ) ^ (-23 : ℤ) * (1 - tiny) := by
    apply mul_nonneg (by positivity); linarith
  linarith

theorem tiny_le_unif (n : ℕ) : tiny ≤ unif n := by
  have := tiny_lt
  unfold unif
  have : 0 ≤ (n : ℝ) * (2 : ℝ) ^ (-23 : ℤ) * (1 - tiny) := by
    apply mul_nonneg (by positivity); linarith
  linarith

theorem unif_lt (n : ℕ) (h : n < 2 ^ 23) : unif n < 1 := by
  have := tiny_lt
  unfold unif
  have hn : (n : ℝ) < 2 ^ 23 := by exact_mod_cast h
  have h1 : (n : ℝ) * (2 : ℝ) ^ (-23 : ℤ) < 1 := by
    have : (2 : ℝ) ^ (-23 : ℤ) = 1 / 2 ^ 23 := by norm_num
    rw [this, mul_one_div, div_lt_one (by positivity)]; exact hn
  nlinarith

theorem unif_strictMono {n k : ℕ} (h : n < k) : unif n < unif k := by
  have := tiny_lt
  unfold unif
  have hn : (n : ℝ) < k := by exact_mod_cast h
  have h2 : (0 : ℝ) < (2 : ℝ) ^ (-23 : ℤ) := by positivity
  have := mul_lt_mul_of_pos_right hn h2
  have := mul_lt_mul_of_pos_right this (show 0 < 1 - tiny by linarith)
  linarith

/-- The noise of a draw, as a real. -/
def gum (n : ℕ) : ℝ := -Real.log (-Real.log (unif n))

theorem neg_log_unif_pos (n : ℕ) (h : n < 2 ^ 23) : 0 < -Real.log (unif n) :=
  neg_pos.mpr (Real.log_neg (unif_pos n) (unif_lt n h))

theorem gum_lt {n k : ℕ} (h : n < k) (hk : k < 2 ^ 23) : gum n < gum k := by
  unfold gum
  have h1 := Real.log_lt_log (unif_pos n) (unif_strictMono h)
  have h2 := neg_log_unif_pos k hk
  have h3 := Real.log_lt_log h2 (neg_lt_neg h1)
  linarith

/-! ## The reference's expression -/

theorem word_one : Ideal.ofBits .f32 0x3F800000#32 = ((1 : ℝ) : EReal) := by simp [Ideal.ofBits, Ideal.ieee, -EReal.coe_mul]; norm_num

theorem word_tiny : Ideal.ofBits .f32 0x00800000#32 = ((tiny : ℝ) : EReal) := by
  simp [Ideal.ofBits, Ideal.ieee, -EReal.coe_mul, tiny]; norm_num

/-- The word whose fraction is the draw: one plus the draw's share of one. -/
theorem word_draw (x : BitVec 32) (h : x.toNat < 2 ^ 23) :
    Ideal.ofBits .f32 (x ||| 0x3F800000#32) = ((1 + x.toNat * (2 : ℝ) ^ (-23 : ℤ) : ℝ) : EReal) := by
  have hs : (x ||| 0x3F800000#32).extractLsb' 31 1 = 0#1 := by
    rw [BitVec.extractLsb'_or]
    have : x.extractLsb' 31 1 = 0#1 := by
      apply BitVec.eq_of_toNat_eq
      rw [BitVec.extractLsb'_toNat, Nat.shiftRight_eq_div_pow, Nat.div_eq_of_lt (by omega)]; rfl
    rw [this]; decide
  have he : (x ||| 0x3F800000#32).extractLsb' 23 8 = 127#8 := by
    rw [BitVec.extractLsb'_or]
    have : x.extractLsb' 23 8 = 0#8 := by
      apply BitVec.eq_of_toNat_eq
      rw [BitVec.extractLsb'_toNat, Nat.shiftRight_eq_div_pow, Nat.div_eq_of_lt (by omega)]; rfl
    rw [this]; decide
  have hf : ((x ||| 0x3F800000#32).extractLsb' 0 23).toNat = x.toNat := by
    rw [BitVec.extractLsb'_or, show (0x3F800000#32).extractLsb' 0 23 = 0#23 by decide, BitVec.or_zero, BitVec.extractLsb'_toNat,
      Nat.shiftRight_zero, Nat.mod_eq_of_lt h]
  show Ideal.ieee 8 23 _ = _
  unfold Ideal.ieee
  simp only [Nat.add_eq, Nat.reduceAdd, hs, he, hf]
  rw [if_neg (by decide), if_neg (by decide)]
  refine congrArg (fun r : ℝ => (r : EReal)) ?_
  push_cast
  norm_num
  ring

/-- The logarithm of a positive real. -/
theorem log_pos (r : ℝ) (h : 0 < r) : Ideal.log (r : EReal) = ((Real.log r : ℝ) : EReal) := by
  show (if r ≤ 0 then ⊥ else ((Real.log r : ℝ) : EReal)) = _
  rw [if_neg (not_le.mpr h)]

/-- The noise that the reference adds, from the draw. -/
def noise (x : BitVec 32) : EReal :=
  -Ideal.log (-Ideal.log (max (Ideal.ofBits .f32 0x00800000#32)
    ((Ideal.ofBits .f32 (x ||| 0x3F800000#32) - Ideal.ofBits .f32 0x3F800000#32)
      * (Ideal.ofBits .f32 0x3F800000#32 - Ideal.ofBits .f32 0x00800000#32) + Ideal.ofBits .f32 0x00800000#32)))

theorem noise_eq (x : BitVec 32) (h : x.toNat < 2 ^ 23) : noise x = ((gum x.toNat : ℝ) : EReal) := by
  unfold noise
  rw [word_draw x h, word_one, word_tiny, ← EReal.coe_sub, ← EReal.coe_sub, ← EReal.coe_mul, ← EReal.coe_add,
    show (1 + x.toNat * (2 : ℝ) ^ (-23 : ℤ) - 1) * (1 - tiny) + tiny = unif x.toNat by unfold unif; ring,
    max_eq_right (EReal.coe_le_coe_iff.mpr (tiny_le_unif _)), log_pos _ (unif_pos _), ← EReal.coe_neg,
    log_pos _ (neg_log_unif_pos _ h), ← EReal.coe_neg]
  rfl

/-- A smaller draw has a smaller noise; with a fixed real added, still. -/
theorem noise_add_lt {x y : BitVec 32} (hy : y.toNat < 2 ^ 23) (h : x < y) (L : ℝ) : noise x + (L : EReal) < noise y + (L : EReal) := by
  have h' : x.toNat < y.toNat := h
  rw [noise_eq x (by omega), noise_eq y hy, ← EReal.coe_add, ← EReal.coe_add, EReal.coe_lt_coe_iff]
  have := gum_lt h' hy
  linarith

theorem bot_lt_noise_add (x : BitVec 32) (hx : x.toNat < 2 ^ 23) (L : ℝ) : ⊥ < noise x + (L : EReal) := by
  rw [noise_eq x hx, ← EReal.coe_add]
  exact EReal.bot_lt_coe _

/-! ## The running argmax -/

/-- One step of the reference's argmax over extended reals: the larger value, the smaller index between equals. -/
def step (a b : EReal × BitVec 32) : EReal × BitVec 32 :=
  (if b.1 < a.1 then a.1 else b.1, if b.1 < a.1 ∨ (a.1 = b.1 ∧ a.2.slt b.2) then a.2 else b.2)

/-- The entry of the action `n` of the row `r`. -/
def entry (L : ℝ) (r : BitVec 32) (n : ℕ) : EReal × BitVec 32 :=
  (noise (draw (counter r (BitVec.ofNat 32 n))) + (L : EReal), BitVec.ofNat 32 n)

/-- A step against a later action keeps the larger draw, the earlier one between equals. -/
theorem step_later (L : ℝ) (s : BitVec 32 × BitVec 32) (d a : BitVec 32) (hs : s.1.toNat < 2 ^ 23) (hd : d.toNat < 2 ^ 23)
    (ha : s.2.slt a = true) :
    step (noise s.1 + (L : EReal), s.2) (noise d + (L : EReal), a)
      = (noise (if s.1 < d then (d, a) else s).1 + (L : EReal), (if s.1 < d then (d, a) else s).2) := by
  unfold step
  by_cases h : s.1 < d
  · have hn := noise_add_lt hd h L
    rw [if_pos h, if_neg (not_lt.mpr hn.le), if_neg]
    rintro (h' | ⟨h', -⟩)
    · exact absurd h' (not_lt.mpr hn.le)
    · exact absurd h' hn.ne
  · rw [if_neg h]
    by_cases h' : d < s.1
    · have hn := noise_add_lt hs h' L
      rw [if_pos hn, if_pos (Or.inl hn)]
    · have he : s.1 = d := by
        apply BitVec.eq_of_toNat_eq
        rw [BitVec.lt_def] at h h'
        omega
      subst he
      rw [if_neg (lt_irrefl _), if_pos (Or.inr ⟨rfl, ha⟩)]

/-- The first step leaves the first entry. -/
theorem step_first (L : ℝ) (d : BitVec 32) (hd : d.toNat < 2 ^ 23) :
    step (⊥, 0#32) (noise d + (L : EReal), 0#32) = (noise d + (L : EReal), 0#32) := by
  have hn := bot_lt_noise_add d hd L
  unfold step
  rw [if_neg (not_lt.mpr hn.le), if_neg]
  rintro (h' | ⟨h', -⟩)
  · exact absurd h' (not_lt.mpr hn.le)
  · exact absurd h' hn.ne

theorem pick_zero (r : BitVec 32) : pick r (0#32, 0#32) 0#32 = (draw (counter r 0#32), 0#32) := by
  unfold pick
  generalize draw (counter r 0#32) = d
  by_cases h : (0#32) < d
  · rw [if_pos h]
  · have : d = 0#32 := by
      apply BitVec.eq_of_toNat_eq
      rw [BitVec.lt_def] at h
      simp only [BitVec.toNat_ofNat] at h ⊢
      omega
    rw [if_neg h, this]

theorem best_zero (r : BitVec 32) : best r 0 = (0#32, 0#32) := by rw [best]

theorem best_succ (r : BitVec 32) (n : ℕ) : best r (n + 1) = pick r (best r n) (BitVec.ofNat 32 n) := by rw [best]

attribute [local irreducible] draw best

/-- The argmax over a row's first actions is the running best. -/
theorem argmax_prefix (L : ℝ) (r : BitVec 32) (n : ℕ) (hn : n < 18) :
    ((List.range (n + 1)).map (entry L r)).foldl step (⊥, 0#32) = (noise (best r (n + 1)).1 + (L : EReal), (best r (n + 1)).2)
      ∧ (best r (n + 1)).1.toNat < 2 ^ 23 ∧ (best r (n + 1)).2.toNat ≤ n := by
  induction n with
  | zero =>
    have hb : best r (0 + 1) = (draw (counter r 0#32), 0#32) := by rw [best_succ, best_zero, pick_zero]
    rw [hb]
    simp only [zero_add, List.range_one, List.map_cons, List.map_nil, List.foldl_cons, List.foldl_nil, entry]
    have hd := draw_lt (counter r 0#32)
    generalize draw (counter r 0#32) = d at hd ⊢
    exact ⟨step_first L d hd, hd, le_refl _⟩
  | succ n ih =>
    obtain ⟨h0, h1, h2⟩ := ih (by omega)
    rw [List.range_succ, List.map_append, List.foldl_append, h0, best_succ r (n + 1)]
    unfold pick
    simp only [List.map_cons, List.map_nil, List.foldl_cons, List.foldl_nil, entry]
    generalize best r (n + 1) = s at h1 h2 ⊢
    have hd := draw_lt (counter r (BitVec.ofNat 32 (n + 1)))
    generalize draw (counter r (BitVec.ofNat 32 (n + 1))) = d at hd ⊢
    have ha : (BitVec.ofNat 32 (n + 1)).toNat = n + 1 := by rw [BitVec.toNat_ofNat, Nat.mod_eq_of_lt (by omega)]
    generalize BitVec.ofNat 32 (n + 1) = a at ha ⊢
    have hlt : s.2.slt a = true := by
      rw [BitVec.slt_eq_decide, decide_eq_true_iff, BitVec.toInt_eq_toNat_of_lt (by omega), BitVec.toInt_eq_toNat_of_lt (by omega), ha]
      exact_mod_cast Nat.lt_succ_of_le h2
    clear h0 ih
    refine ⟨step_later L s d a h1 hd hlt, ?_⟩
    by_cases h : s.1 < d
    · rw [if_pos h]
      exact ⟨hd, ha.le⟩
    · rw [if_neg h]
      exact ⟨h1, h2.trans (Nat.le_succ n)⟩

theorem snd_of_eq {x : EReal × BitVec 32} (e : EReal) (s : BitVec 32 × BitVec 32) (h : x = (e, s.2)) : x.2 = s.2 := by rw [h]

/-- The argmax over a whole row is the action of the draws' running maximum. -/
theorem argmax_row (L : ℝ) (r : BitVec 32) (n : ℕ) (hn : n = 18) : (((List.range n).map (entry L r)).foldl step (⊥, 0#32)).2 = action r := by
  have h : ∀ k, n = k + 1 → k < 18 → (((List.range n).map (entry L r)).foldl step (⊥, 0#32)).2 = (best r n).2 := by
    intro k hk h
    subst hk
    exact snd_of_eq _ _ (argmax_prefix L r k h).1
  rw [action_eq, h 17 hn (by omega), hn]

end Cert.Proof.Noise
-- ==== Proof.RefHead.lean ====
/-
  The distribution of the reference over the extended reals: the logits are zero, their sums are zero, and the logarithms of the
  probabilities are one and the same real.
-/
module

public import proofs.«01_k».proof.Proof.RefCipher
public import proofs.«01_k».proof.Proof.Noise
public import Idealize.ShloMosaic.PureOps.Ideal.Laws

@[expose] public section

noncomputable section

namespace Cert.Proof.Ref

open Idealize.ShloMosaic Idealize.SL.Sem Cert.ReferenceIdeal
open Facts₀ Facts

variable [Facts]

theorem word_zero : Ideal.ofBits .f32 0x00000000#32 = 0 := by simp [Ideal.ofBits, Ideal.ieee, -EReal.coe_mul]

theorem word_bot : Ideal.ofBits .f32 0xFF800000#32 = ⊥ := by simp [Ideal.ofBits, Ideal.ieee, -EReal.coe_mul]

/-- The small constant added to the probabilities is a nonnegative real. -/
theorem word_small : ∃ c : ℝ, 0 ≤ c ∧ Ideal.ofBits .f32 0x1E3CE508#32 = (c : EReal) := by
  refine ⟨(2 ^ 23 + 0x3CE508 : ℕ) * (2 : ℝ) ^ ((60 : ℤ) - 127 - 23), by positivity, ?_⟩
  simp [Ideal.ofBits, Ideal.ieee, -EReal.coe_mul]

theorem reduces_row : S512x18.Reduces [1] S512 := by decide

/-- The sum of a row of one real. -/
theorem sum_const (c : ℝ) : (Host.reduceAdd (F := Ideal) (fun _ => (c : EReal) : C Ideal ⟨S512x18, .f32⟩) (constant S_ .f32 0x00000000#32)
    reducesTo_S512x18_S512_d1 h_S_ : C Ideal ⟨S512, .f32⟩) = fun _ => ((18 * c : ℝ) : EReal) := by
  funext j
  show Ideal.hostReduceAdd _ _ (Ideal.ofBits .f32 0x00000000#32) j = _
  rw [Ideal.hostReduceAdd_single reducesTo_S512x18_S512_d1 reduces_row, word_zero, zero_add]
  show ∑ _ : Fin 18, (c : EReal) = _
  rw [Finset.sum_const, Finset.card_univ, Fintype.card_fin, ← EReal.coe_nsmul, nsmul_eq_mul]
  norm_num

/-- The maximum of a row of one real. -/
theorem max_const (c : ℝ) : (Host.reduce (FloatOps.maximumf (F := Ideal) (φ := .f32)) (fun _ => (c : EReal) : C Ideal ⟨S512x18, .f32⟩)
    (constant (F := Ideal) S_ .f32 0xFF800000#32) reducesTo_S512x18_S512_d1 h_S_ : C Ideal ⟨S512, .f32⟩) = fun _ => (c : EReal) := by
  funext j
  show Host.reduce (max : EReal → EReal → EReal) _ _ _ _ _ = _
  rw [Host.reduce_eq_fold_single _ _ _ reducesTo_S512x18_S512_d1 reduces_row]
  show (Finset.univ : Finset (Fin 18)).fold max (Ideal.ofBits .f32 0xFF800000#32) (fun _ => (c : EReal)) = _
  rw [word_bot]
  refine le_antisymm (Finset.fold_max_le _ |>.mpr ⟨bot_le, fun _ _ => le_refl _⟩) (Finset.le_fold_max _ |>.mpr (Or.inr ⟨0, Finset.mem_univ _, le_refl _⟩))

/-- The logits' expression: a row of the argument, each entry times zero. -/
def logits (θ : C Ideal ⟨S18, .f32⟩) : C Ideal ⟨S512x18, .f32⟩ :=
  broadcastInDim S512x18 ![0, 1] bcast_S1x18_S512x18_0_1 (broadcastInDim S1x18 ![1] bcast_S18_S1x18_1
    (mulf θ (broadcastInDim S18 ![] bcast_S_S18 (constant (F := Ideal) S_ .f32 0x00000000#32))))

theorem logits_eq (θ : C Ideal ⟨S18, .f32⟩) : logits θ = fun _ => ((0 : ℝ) : EReal) := by
  funext i
  show _ * Ideal.ofBits .f32 0x00000000#32 = _
  rw [word_zero, mul_zero, EReal.coe_zero]

theorem logits_zero (V : Valuation τ sig (Elt Ideal)) :
    (StableHlo.after (opsHead (F := Ideal)) V (Proc.devRef .tc main_v3) : C Ideal ⟨S512x18, .f32⟩) = fun _ => ((0 : ℝ) : EReal) := by
  after_results_simp
  exact logits_eq (V (Proc.devRef .tc main_arg1))

/-- The sum of each row. -/
def rowSum (x : C Ideal ⟨S512x18, .f32⟩) : C Ideal ⟨S512, .f32⟩ :=
  Host.reduceAdd (F := Ideal) (φ := .f32) x (constant S_ .f32 0x00000000#32) reducesTo_S512x18_S512_d1 h_S_

/-- The maximum of each row. -/
def rowMax (x : C Ideal ⟨S512x18, .f32⟩) : C Ideal ⟨S512, .f32⟩ :=
  Host.reduce (FloatOps.maximumf (F := Ideal) (φ := .f32)) x (constant (F := Ideal) S_ .f32 0xFF800000#32) reducesTo_S512x18_S512_d1 h_S_

/-- A value per row, over the row. -/
def spread (x : C Ideal ⟨S512, .f32⟩) : C Ideal ⟨S512x18, .f32⟩ :=
  broadcastInDim S512x18 ![0, 1] bcast_S512x1_S512x18_0_1 (broadcastInDim S512x1 ![0] bcast_S512_S512x1_0 x)

/-- The exponentials of a row, its maximum taken off. -/
def weights (x : C Ideal ⟨S512x18, .f32⟩) : C Ideal ⟨S512x18, .f32⟩ :=
  Host.exp (F := Ideal) (φ := .f32) (subf (F := Ideal) (φ := .f32) x (spread (maximumf (F := Ideal) (φ := .f32) (broadcastInDim S512 ![] bcast_S_S512 (constant (F := Ideal) S_ .f32 0xFF800000#32))
    (rowMax x))))

/-- The logarithm of a weight's share of its row, the small constant added. -/
def logProb (w : C Ideal ⟨S512x18, .f32⟩) : C Ideal ⟨S512x18, .f32⟩ :=
  Host.log (F := Ideal) (φ := .f32) (addf (F := Ideal) (φ := .f32) (Host.divf (F := Ideal) (φ := .f32) w (spread (rowSum w)))
    (broadcastInDim S512x18 ![] bcast_S_S512x18 (constant (F := Ideal) S_ .f32 0x1E3CE508#32)))

theorem base_zero (V : Valuation τ sig (Elt Ideal)) :
    (StableHlo.after (opsHead (F := Ideal)) V (Proc.devRef .tc main_v5) : C Ideal ⟨S16x32, .f32⟩) = fun _ => ((0 : ℝ) : EReal) := by
  after_results_simp
  change (fun i => shapeCast S16x32 (rowSum (logits (V (Proc.devRef .tc main_arg1)))) shapeCasts_S512_S16x32 i) = _
  rw [logits_eq, rowSum, sum_const]
  funext j
  show ((18 * 0 : ℝ) : EReal) = _
  rw [mul_zero]

theorem weights_eq : weights (fun _ => ((0 : ℝ) : EReal)) = fun _ => ((1 : ℝ) : EReal) := by
  unfold weights
  rw [show rowMax (fun _ => ((0 : ℝ) : EReal)) = fun _ => ((0 : ℝ) : EReal) from max_const 0]
  funext i
  show Ideal.exp (((0 : ℝ) : EReal) - max (Ideal.ofBits .f32 0xFF800000#32) ((0 : ℝ) : EReal)) = _
  rw [word_bot, max_eq_right bot_le, ← EReal.coe_sub, sub_zero]
  show ((Real.exp 0 : ℝ) : EReal) = _
  rw [Real.exp_zero]

theorem logProb_eq (c : ℝ) (hc : 0 ≤ c) (hw : Ideal.ofBits .f32 0x1E3CE508#32 = (c : EReal)) :
    logProb (fun _ => ((1 : ℝ) : EReal)) = fun _ => ((Real.log (1 / 18 + c) : ℝ) : EReal) := by
  unfold logProb
  rw [rowSum, sum_const]
  funext i
  show Ideal.log (Ideal.div ((1 : ℝ) : EReal) ((18 * 1 : ℝ) : EReal) + Ideal.ofBits .f32 0x1E3CE508#32) = _
  have h18 : ((18 * 1 : ℝ) : EReal) ≠ 0 := by
    rw [mul_one, ← EReal.coe_zero, Ne, EReal.coe_eq_coe_iff]
    norm_num
  rw [hw, Ideal.div, if_neg h18, ← EReal.coe_inv, ← EReal.coe_mul, ← EReal.coe_add, mul_one, one_mul, ← one_div]
  exact Noise.log_pos _ (by positivity)

/-- The logarithms of the probabilities: one real. -/
theorem log_prob : ∃ L : ℝ, ∀ V : Valuation τ sig (Elt Ideal),
    (StableHlo.after (opsHead (F := Ideal)) V (Proc.devRef .tc main_v26) : C Ideal ⟨S512x18, .f32⟩) = fun _ => (L : EReal) := by
  obtain ⟨c, hc, hw⟩ := word_small
  refine ⟨Real.log (1 / 18 + c), fun V => ?_⟩
  after_results_simp
  change logProb (weights (logits (V (Proc.devRef .tc main_arg1)))) = _
  rw [logits_eq, weights_eq, logProb_eq c hc hw]
  rfl

end Cert.Proof.Ref
-- ==== Proof.RefArgmax.lean ====
/-
  The reference's argmax over a row: the fold over the row's entries, left to right.
-/
module

public import proofs.«01_k».proof.Proof.RefHead
public import Mathlib.Data.List.Sort

@[expose] public section

noncomputable section

namespace Cert.Proof.Ref

open Idealize.ShloMosaic Idealize.SL.Sem Cert.ReferenceIdeal Cert.Proof.Threefry
open Facts₀ Facts

variable [Facts]

theorem numel_eq : S512x18.numel = 9216 := by decide

/-- The position of the entry `a` of the row `r`. -/
def spot (r : Fin 512) (a : Fin 18) : Fin S512x18.numel := ⟨18 * r.val + a.val, by rw [numel_eq]; omega⟩

theorem position (n : Fin S512x18.numel) :
    n.val = ((S512x18.rowMajor.symm n) 0).val * 18 + ((S512x18.rowMajor.symm n) 1).val := by
  have h := rowMajor_val2 (S512x18.rowMajor.symm n) 18 rfl
  rw [Equiv.apply_symm_apply] at h
  exact h

theorem spot_row (r : Fin 512) (a : Fin 18) : ((S512x18.rowMajor.symm (spot r a)) 0).val = r.val := by
  have h := position (spot r a)
  have h1 : ((S512x18.rowMajor.symm (spot r a)) 1).val < 18 := ((S512x18.rowMajor.symm (spot r a)) 1).isLt
  have h2 : (spot r a).val = 18 * r.val + a.val := rfl
  omega

theorem spot_col (r : Fin 512) (a : Fin 18) : ((S512x18.rowMajor.symm (spot r a)) 1).val = a.val := by
  have h := position (spot r a)
  have h0 := spot_row r a
  have h2 : (spot r a).val = 18 * r.val + a.val := rfl
  omega

/-- The positions that belong to a row, in order. -/
theorem row_positions (j : S512.Idx) :
    ((List.finRange S512x18.numel).filter fun n => reducesTo_S512x18_S512_d1.drop (S512x18.rowMajor.symm n) = j)
      = (List.finRange 18).map (spot (j 0)) := by
  have hd : ∀ n : Fin S512x18.numel, reducesTo_S512x18_S512_d1.drop (S512x18.rowMajor.symm n) = j ↔
      ((S512x18.rowMajor.symm n) 0).val = (j 0).val := by
    intro n
    have h := reducesTo_S512x18_S512_d1.drop_apply_val_of_eq (S512x18.rowMajor.symm n) 0 0
    constructor
    · intro e
      rw [← h, e]
    · intro e
      funext b
      have hb : b = 0 := Subsingleton.elim _ _
      subst hb
      exact Fin.ext (h.trans e)
  refine List.SortedLT.eq_of_mem_iff ?_ ?_ ?_
  · exact ((List.sortedLT_finRange _).pairwise.filter _).sortedLT
  · rw [List.sortedLT_iff_pairwise, List.pairwise_map]
    refine (List.sortedLT_finRange 18).pairwise.imp fun {a b} hab => ?_
    show 18 * (j 0).val + a.val < 18 * (j 0).val + b.val
    have : a.val < b.val := hab
    omega
  · intro n
    rw [List.mem_filter, List.mem_map]
    constructor
    · rintro ⟨-, hn⟩
      have hn' := (hd n).mp (of_decide_eq_true hn)
      have hp := position n
      refine ⟨(S512x18.rowMajor.symm n) 1, List.mem_finRange _, Fin.ext ?_⟩
      show 18 * (j 0).val + ((S512x18.rowMajor.symm n) 1).val = n.val
      omega
    · rintro ⟨a, -, rfl⟩
      exact ⟨List.mem_finRange _, decide_eq_true ((hd _).mpr (spot_row (j 0) a))⟩

/-- The scores of the actions. -/
def score (L : ℝ) : C Ideal ⟨S512x18, .f32⟩ := fun i => Noise.noise (draw (place i)) + (L : EReal)

theorem reducer_eq : (reducer_argmax_f32_i32 (F := Ideal) : EReal × BitVec 32 → EReal × BitVec 32 → EReal × BitVec 32) = Noise.step := by
  funext a b
  obtain ⟨x, m⟩ := a
  obtain ⟨y, n⟩ := b
  show (Scalar.select (Ideal.cmp .ogt x y ||| Ideal.cmp .une x x) x y,
    Scalar.select ((Ideal.cmp .ogt x y ||| Ideal.cmp .une x x) ||| (Ideal.cmp .oeq x y &&& BitVec.ofBool (m.slt n))) m n) = _
  have h : Ideal.cmp .une x x = 0#1 := by simp [Ideal.cmp]
  rw [h, BitVec.or_zero]
  unfold Noise.step Scalar.select Ideal.cmp
  by_cases h1 : y < x <;> by_cases h2 : x = y <;> cases h3 : m.slt n <;> simp [h1, h2, h3]

/-- The entry at a position of a row. -/
theorem entry_at (L : ℝ) (r : Fin 512) (a : Fin 18) :
    (score L (S512x18.rowMajor.symm (spot r a)), iotaInDim S512x18 32 1 (S512x18.rowMajor.symm (spot r a)))
      = Noise.entry L (BitVec.ofNat 32 r.val) a.val := by
  unfold score place Noise.entry iotaInDim
  rw [spot_row, spot_col]

/-- The reference's choice in a row is the action of the largest draw. -/
theorem argmax_eq (L : ℝ) (j : S512.Idx) :
    (Host.argReduce (F := Ideal) (φ := .f32) reducer_argmax_f32_i32 (score L) (iotaInDim S512x18 32 1) (constant S_ .f32 0xFF800000#32)
      (constantI S_ 32 0#32) reducesTo_S512x18_S512_d1 h_S_ j).2 = action (BitVec.ofNat 32 (j 0).val) := by
  rw [Ideal.argReduce_eq_reduce2, Host.reduce2_eq_foldl_fiber, Host.argReduceFiber, row_positions, List.map_map]
  have hl : (List.finRange 18).map ((fun n => (score L (S512x18.rowMajor.symm n), iotaInDim S512x18 32 1 (S512x18.rowMajor.symm n)))
      ∘ spot (j 0)) = (List.range 18).map (Noise.entry L (BitVec.ofNat 32 (j 0).val)) := by
    rw [← List.map_coe_finRange_eq_range, List.map_map]
    exact List.map_congr_left fun a _ => entry_at L (j 0) a
  rw [hl, reducer_eq]
  have hi : ((constant (F := Ideal) S_ .f32 0xFF800000#32 : C Ideal ⟨S_, .f32⟩) (Shape.Idx.first h_S_), constantI S_ 32 0#32 (Shape.Idx.first h_S_))
      = ((⊥ : EReal), 0#32) := congrArg (fun e : EReal => (e, 0#32)) word_bot
  exact (congrArg (fun s => (List.foldl Noise.step s ((List.range 18).map (Noise.entry L (BitVec.ofNat 32 (j 0).val)))).2) hi).trans
    (Noise.argmax_row L _ 18 rfl)

end Cert.Proof.Ref
-- ==== Proof.RefValue.lean ====
/-
  What the reference leaves in its three results over the extended reals: zero logits, zero baselines, and in each row the action of
  the largest draw.
-/
module

public import proofs.«01_k».proof.Proof.RefArgmax

@[expose] public section

noncomputable section

namespace Cert.Proof.Ref

open Idealize.ShloMosaic Idealize.SL.Sem Cert.ReferenceIdeal Cert.Proof.Threefry
open Facts₀ Facts

variable [Facts]

/-- The score of an entry from its pair of words. -/
def scoreOf (L : ℝ) (p : Pairs) : C Ideal ⟨S512x18, .f32⟩ := fun i => Noise.noise (((p i).1 ^^^ (p i).2) >>> 9#32) + (L : EReal)

/-- The choice in each row, from the scores. -/
def choice (x : C Ideal ⟨S512x18, .f32⟩) : C Ideal ⟨S512, .i32⟩ := fun j =>
  (Host.argReduce (F := Ideal) (φ := .f32) reducer_argmax_f32_i32 x (iotaInDim S512x18 32 1) (constant S_ .f32 0xFF800000#32)
    (constantI S_ 32 0#32) reducesTo_S512x18_S512_d1 h_S_ j).2

/-- The values the later phases share: the key words, the bounds of the uniform values and the log-probabilities. -/
structure Shared (L : ℝ) (V : Valuation τ sig (Elt Ideal)) : Prop where
  key0 : (V (Proc.devRef .tc main_call0_call0_v4) : Word Ideal) = fun _ => 0#32
  key1 : (V (Proc.devRef .tc main_call0_call0_v6) : Word Ideal) = fun _ => 123#32
  key2 : (V (Proc.devRef .tc main_call0_call0_call0_v1) : Word Ideal) = fun _ => ks2
  low : (V (Proc.devRef .tc main_call0_call0_v1) : C Ideal ⟨S1x1, .f32⟩) = fun _ => Ideal.ofBits .f32 0x00800000#32
  high : (V (Proc.devRef .tc main_call0_call0_v2) : C Ideal ⟨S1x1, .f32⟩) = fun _ => Ideal.ofBits .f32 0x3F800000#32
  logs : (V (Proc.devRef .tc main_v26) : C Ideal ⟨S512x18, .f32⟩) = fun _ => (L : EReal)

theorem tail_choice (L : ℝ) (V : Valuation τ sig (Elt Ideal)) (p : Pairs) (hS : Shared L V)
    (h0 : (V (Proc.devRef .tc main_call0_call0_v18_0) : Words Ideal) = fun i => (p i).1)
    (h1 : (V (Proc.devRef .tc main_call0_call0_v18_1) : Words Ideal) = fun i => (p i).2) :
    (StableHlo.after (opsTail (F := Ideal)) V (Proc.devRef .tc main_v30) : C Ideal ⟨S16x32, .i32⟩)
      = shapeCast S16x32 (choice (scoreOf L p)) shapeCasts_S512_S16x32 := by
  after_results_simp
  rw [h0, h1, hS.low, hS.high, hS.logs]
  refine congrArg (fun x => shapeCast S16x32 (choice x) shapeCasts_S512_S16x32) ?_
  funext i
  rfl

theorem tail_logits (V : Valuation τ sig (Elt Ideal)) (x : EReal)
    (h : (V (Proc.devRef .tc main_v3) : C Ideal ⟨S512x18, .f32⟩) = fun _ => x) :
    (StableHlo.after (opsTail (F := Ideal)) V (Proc.devRef .tc main_v31) : C Ideal ⟨S16x32x18, .f32⟩) = fun _ => x := by
  after_results_simp
  rw [h]
  rfl

theorem Shared.g1 {L : ℝ} {V : Valuation τ sig (Elt Ideal)} (h : Shared L V) : Shared L (StableHlo.after (opsG1 (F := Ideal)) V) :=
  ⟨(keepG1 V _ (by decide)).trans h.key0, (keepG1 V _ (by decide)).trans h.key1, (keepG1 V _ (by decide)).trans h.key2,
    (keepG1 V _ (by decide)).trans h.low, (keepG1 V _ (by decide)).trans h.high, (keepG1 V _ (by decide)).trans h.logs⟩

theorem Shared.g2 {L : ℝ} {V : Valuation τ sig (Elt Ideal)} (h : Shared L V) : Shared L (StableHlo.after (opsG2 (F := Ideal)) V) :=
  ⟨(keepG2 V _ (by decide)).trans h.key0, (keepG2 V _ (by decide)).trans h.key1, (keepG2 V _ (by decide)).trans h.key2,
    (keepG2 V _ (by decide)).trans h.low, (keepG2 V _ (by decide)).trans h.high, (keepG2 V _ (by decide)).trans h.logs⟩

theorem Shared.g3 {L : ℝ} {V : Valuation τ sig (Elt Ideal)} (h : Shared L V) : Shared L (StableHlo.after (opsG3 (F := Ideal)) V) :=
  ⟨(keepG3 V _ (by decide)).trans h.key0, (keepG3 V _ (by decide)).trans h.key1, (keepG3 V _ (by decide)).trans h.key2,
    (keepG3 V _ (by decide)).trans h.low, (keepG3 V _ (by decide)).trans h.high, (keepG3 V _ (by decide)).trans h.logs⟩

theorem Shared.g4 {L : ℝ} {V : Valuation τ sig (Elt Ideal)} (h : Shared L V) : Shared L (StableHlo.after (opsG4 (F := Ideal)) V) :=
  ⟨(keepG4 V _ (by decide)).trans h.key0, (keepG4 V _ (by decide)).trans h.key1, (keepG4 V _ (by decide)).trans h.key2,
    (keepG4 V _ (by decide)).trans h.low, (keepG4 V _ (by decide)).trans h.high, (keepG4 V _ (by decide)).trans h.logs⟩

theorem Shared.g5 {L : ℝ} {V : Valuation τ sig (Elt Ideal)} (h : Shared L V) : Shared L (StableHlo.after (opsG5 (F := Ideal)) V) :=
  ⟨(keepG5 V _ (by decide)).trans h.key0, (keepG5 V _ (by decide)).trans h.key1, (keepG5 V _ (by decide)).trans h.key2,
    (keepG5 V _ (by decide)).trans h.low, (keepG5 V _ (by decide)).trans h.high, (keepG5 V _ (by decide)).trans h.logs⟩

theorem count_low (V : Valuation τ sig (Elt Ideal)) :
    (StableHlo.after (opsCount (F := Ideal)) V (Proc.devRef .tc main_call0_call0_v1) : C Ideal ⟨S1x1, .f32⟩)
      = fun _ => Ideal.ofBits .f32 0x00800000#32 := by
  after_results_simp
  rfl

theorem count_high (V : Valuation τ sig (Elt Ideal)) :
    (StableHlo.after (opsCount (F := Ideal)) V (Proc.devRef .tc main_call0_call0_v2) : C Ideal ⟨S1x1, .f32⟩)
      = fun _ => Ideal.ofBits .f32 0x3F800000#32 := by
  after_results_simp
  rfl

/-- The contents when the rounds start. -/
abbrev started (V : Valuation τ sig (Elt Ideal)) : Valuation τ sig (Elt Ideal) :=
  StableHlo.after (opsKey (F := Ideal)) (StableHlo.after (opsCount (F := Ideal)) (StableHlo.after (opsHead (F := Ideal)) V))

/-- The contents after all five groups of rounds. -/
abbrev ciphered (V : Valuation τ sig (Elt Ideal)) : Valuation τ sig (Elt Ideal) :=
  StableHlo.after (opsG5 (F := Ideal)) (StableHlo.after (opsG4 (F := Ideal)) (StableHlo.after (opsG3 (F := Ideal))
    (StableHlo.after (opsG2 (F := Ideal)) (StableHlo.after (opsG1 (F := Ideal)) (started V)))))

theorem shared_started (L : ℝ) (V : Valuation τ sig (Elt Ideal))
    (hL : (StableHlo.after (opsHead (F := Ideal)) V (Proc.devRef .tc main_v26) : C Ideal ⟨S512x18, .f32⟩) = fun _ => (L : EReal)) :
    Shared L (started V) := by
  have hk := valKey_head (F := Ideal) V
  have k0 := valCount_key0 (F := Ideal) _ hk
  have k1 := valCount_key1 (F := Ideal) _ hk
  exact ⟨(keepKey _ _ (by decide)).trans k0, (keepKey _ _ (by decide)).trans k1, valKey_third _ k0 k1,
    (keepKey _ _ (by decide)).trans (count_low _), (keepKey _ _ (by decide)).trans (count_high _),
    ((keepKey _ _ (by decide)).trans (keepCount _ _ (by decide))).trans hL⟩

/-- The pairs that enter the rounds. -/
def start : Pairs := fun i => (0#32 + 0#32, place i + 123#32)

theorem started_fst (V : Valuation τ sig (Elt Ideal)) :
    (started V (Proc.devRef .tc main_call0_call0_call0_v3) : Words Ideal) = fun i => (start i).1 :=
  valKey_fst _ (valCount_key0 _ (valKey_head V)) (valCount_hi _)

theorem started_snd (V : Valuation τ sig (Elt Ideal)) :
    (started V (Proc.devRef .tc main_call0_call0_call0_v5) : Words Ideal) = fun i => (start i).2 :=
  valKey_snd _ (valCount_key1 _ (valKey_head V)) (valCount_lo _)

/-- The pairs after each group of rounds. -/
def after1 : Pairs := fun i => inject 123#32 ks2 1#32 (roundsA (start i))
def after2 : Pairs := fun i => inject ks2 0#32 2#32 (roundsB (after1 i))
def after3 : Pairs := fun i => inject 0#32 123#32 3#32 (roundsA (after2 i))
def after4 : Pairs := fun i => inject 123#32 ks2 4#32 (roundsB (after3 i))
def after5 : Pairs := fun i => inject ks2 0#32 5#32 (roundsA (after4 i))

theorem after5_eq (i : S512x18.Idx) : after5 i = block (0#32, place i) := by
  unfold after5 after4 after3 after2 after1 start block
  rfl

/-- The words when the rounds end, and the shared values beside them. -/
theorem ciphered_eq (L : ℝ) (V : Valuation τ sig (Elt Ideal))
    (hL : (StableHlo.after (opsHead (F := Ideal)) V (Proc.devRef .tc main_v26) : C Ideal ⟨S512x18, .f32⟩) = fun _ => (L : EReal)) :
    Shared L (ciphered V)
      ∧ (ciphered V (Proc.devRef .tc main_call0_call0_v18_0) : Words Ideal) = (fun i => (after5 i).1)
      ∧ (ciphered V (Proc.devRef .tc main_call0_call0_v18_1) : Words Ideal) = (fun i => (after5 i).2) := by
  have s0 := shared_started L V hL
  have s1 := s0.g1
  have s2 := s1.g2
  have s3 := s2.g3
  have s4 := s3.g4
  have a0 := started_fst V
  have b0 := started_snd V
  have a1 := valG1_fst _ start a0 b0 s0.key1
  have b1 := valG1_snd _ start a0 b0 s0.key2
  have a2 := valG2_fst _ after1 a1 b1 s1.key2
  have b2 := valG2_snd _ after1 a1 b1 s1.key0
  have a3 := valG3_fst _ after2 a2 b2 s2.key0
  have b3 := valG3_snd _ after2 a2 b2 s2.key1
  have a4 := valG4_fst _ after3 a3 b3 s3.key1
  have b4 := valG4_snd _ after3 a3 b3 s3.key2
  exact ⟨s4.g5, valG5_fst _ after4 a4 b4 s4.key2, valG5_snd _ after4 a4 b4 s4.key0⟩

theorem ops_after (V : Valuation τ sig (Elt Ideal)) :
    StableHlo.after (ops (F := Ideal)) V = StableHlo.after (opsTail (F := Ideal)) (ciphered V) := by
  unfold ops
  rw [after_append, after_append, after_append, after_append, after_append, after_append, after_append, after_append]

theorem scoreOf_eq (L : ℝ) : scoreOf L after5 = score L := by
  funext i
  unfold scoreOf score draw
  rw [after5_eq]

/-- The row of an entry of the (16, 32) arrays. -/
theorem row_of (j : S16x32.Idx) : (Shape.reshapeEquiv shapeCasts_S512_S16x32 j 0).val = 32 * (j 0).val + (j 1).val := by
  have h0 : (j 0).val < 16 := (j 0).isLt
  have h1 : (j 1).val < 32 := (j 1).isLt
  let y : S512.Idx := fun b => ⟨32 * (j 0).val + (j 1).val, by
    have hb : b = 0 := Subsingleton.elim _ _
    subst hb
    show _ < 512
    omega⟩
  have h : Shape.reshapeEquiv shapeCasts_S512_S16x32 j = y :=
    Shape.reshapeEquiv_eq_of_vals _ j y (32 * (j 0).val + (j 1).val) ((j 0).val * 32 + (j 1).val) (rowMajor_val1 y) (rowMajor_val2 j 32 rfl)
      (by omega)
  rw [h]

/-- The chosen actions. -/
theorem value_actions (V : Valuation τ sig (Elt Ideal)) :
    (StableHlo.after (ops (F := Ideal)) V (Proc.devRef .tc main_v30) : C Ideal ⟨S16x32, .i32⟩)
      = fun j => action (BitVec.ofNat 32 (32 * (j 0).val + (j 1).val)) := by
  obtain ⟨L, hL⟩ := log_prob
  obtain ⟨hS, h0, h1⟩ := ciphered_eq L V (hL V)
  rw [ops_after, tail_choice L _ after5 hS h0 h1, scoreOf_eq]
  funext j
  show choice (score L) (Shape.reshapeEquiv shapeCasts_S512_S16x32 j) = _
  unfold choice
  rw [argmax_eq, row_of]

/-- The logits. -/
theorem value_logits (V : Valuation τ sig (Elt Ideal)) :
    (StableHlo.after (ops (F := Ideal)) V (Proc.devRef .tc main_v31) : C Ideal ⟨S16x32x18, .f32⟩) = fun _ => ((0 : ℝ) : EReal) := by
  rw [ops_after]
  refine tail_logits _ _ ?_
  unfold ciphered started
  rw [keepG5 _ _ (by decide), keepG4 _ _ (by decide), keepG3 _ _ (by decide), keepG2 _ _ (by decide), keepG1 _ _ (by decide),
    keepKey _ _ (by decide), keepCount _ _ (by decide)]
  exact logits_zero V

/-- The baselines. -/
theorem value_base (V : Valuation τ sig (Elt Ideal)) :
    (StableHlo.after (ops (F := Ideal)) V (Proc.devRef .tc main_v5) : C Ideal ⟨S16x32, .f32⟩) = fun _ => ((0 : ℝ) : EReal) := by
  rw [ops_after]
  unfold ciphered started
  rw [keepTail _ _ (by decide), keepG5 _ _ (by decide), keepG4 _ _ (by decide), keepG3 _ _ (by decide), keepG2 _ _ (by decide),
    keepG1 _ _ (by decide), keepKey _ _ (by decide), keepCount _ _ (by decide)]
  exact base_zero V

end Cert.Proof.Ref
-- ==== Proof.Values.lean ====
/-
  The kernel and the reference end with the same three results over the extended reals.
-/
module

public import proofs.«01_k».proof.Proof.KernelRun
public import proofs.«01_k».proof.Proof.RefValue

@[expose] public section

noncomputable section

namespace Cert.Proof.Values

open Idealize.ShloMosaic Idealize.SL.Sem

section Kernel

open Cert.KernelIdeal Cert.KernelIdeal.Gen

/-- The kernel's products with zero are zero. -/
theorem pay1_zero (θ : Vec Ideal S18 .f32) : k1_pay1 (F := Ideal) θ = fun _ => ((0 : ℝ) : EReal) := by
  funext i
  show (θ i : EReal) * Ideal.ofBits .f32 0x00000000#32 = _
  rw [Ref.word_zero, mul_zero, EReal.coe_zero]

theorem pay2_zero (θ : Vec Ideal S18 .f32) : k1_pay2 (F := Ideal) θ = fun _ => ((0 : ℝ) : EReal) := by
  unfold k1_pay2
  rw [pay1_zero]
  rfl

theorem pay3_zero (θ : Vec Ideal S18 .f32) : k1_pay3 (F := Ideal) θ = fun _ => ((0 : ℝ) : EReal) := by
  unfold k1_pay3
  rw [pay1_zero]
  funext i
  refine (Ideal.multiReduction_add_single _ 0x00000000#32 reduces_S1x18_S1 (.inl rfl) rfl _).trans ?_
  exact (Finset.sum_eq_zero fun _ _ => EReal.coe_zero).trans EReal.coe_zero.symm

end Kernel

/-- The two programs agree on all three results. -/
theorem equal : Cert.algebraic_KernelIdeal_ReferenceIdeal (hKernelIdeal := Cert.KernelIdeal.Gen.facts)
    (hReferenceIdeal := Cert.ReferenceIdeal.Gen.facts) := by
  letI := Cert.ReferenceIdeal.Gen.facts
  intro m g m' g' _ _
  refine ⟨fun _ _ => ((0 : ℝ) : EReal), fun _ _ => ((0 : ℝ) : EReal), fun c => Sampler.actions (F := Ideal) c, ?_, ?_⟩
  · refine θ_run_mono (Sampler.run_main (F := Ideal) m g) fun r h c => ?_
    obtain ⟨h0, h1, h2, h3, h4, h5⟩ := h.1 c
    exact ⟨h4.trans (pay2_zero _), h5.trans (pay3_zero _), h3, h0, h1, h2⟩
  · refine θ_run_mono (Ref.run (F := Ideal) m' g') fun r h c => ?_
    exact ⟨(h c _).trans (Ref.value_logits _), (h c _).trans (Ref.value_base _), (h c _).trans (Ref.value_actions _),
      (h c _).trans (Ref.keep _ _ (by decide)), (h c _).trans (Ref.keep _ _ (by decide)), (h c _).trans (Ref.keep _ _ (by decide))⟩

end Cert.Proof.Values
-- ==== Proof.lean ====
/-
  The certificate's claims: the frame of the kernel as printed, of the kernel and of the reference over the extended reals, that the
  kernel read over the extended reals is the kernel printed, and that the two compute the same three results.
-/
module

public import proofs.«01_k».proof.Defs
public import proofs.«01_k».proof.Proof.KernelRun
public import proofs.«01_k».proof.Proof.RefRun
public import proofs.«01_k».proof.Proof.Values

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Sampler.frame_kernel, Sampler.frame_ideal, Ref.frame, trivial, Values.equal⟩

end Cert.Proof

end
